-- ==== Defs.lean ====
def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
      ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v2_0)) (v1 : (c : Dev Cert.QuantIdeal.nD) → Buf (Elt Ideal) ((c.tc : Thread Cert.QuantIdeal.nD Cert.QuantIdeal.τ).loc Cert.QuantIdeal.main_v2_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v2_0) = v0 c
          ∧ r.2.mem ((c.tc : Thread Cert.QuantIdeal.nD Cert.QuantIdeal.τ).loc Cert.QuantIdeal.main_v2_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v0_0) = v0 c
          ∧ r.2.mem ((c.tc : Thread Cert.QuantRefIdeal.nD Cert.QuantRefIdeal.τ).loc Cert.QuantRefIdeal.main_v0_1) = v1 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0)
          ∧ r.2.mem ((c.tc : Thread Cert.QuantRefIdeal.nD Cert.QuantRefIdeal.τ).loc Cert.QuantRefIdeal.main_arg1) = m' ((c.tc : Thread Cert.QuantRefIdeal.nD Cert.QuantRefIdeal.τ).loc Cert.QuantRefIdeal.main_arg1))

def preserves_Proj_ProjIdeal : Prop :=
  IdealRules.bf16_pair.PackStatement Cert.ProjIdeal.S1024x128
  ∧ IdealRules.bf16_pair.Statement Cert.ProjIdeal.S1024x2x128 Cert.ProjIdeal.S1024x1x128

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0_0) = v0 c
          ∧ r.2.mem ((c.tc : Thread Cert.ProjRefIdeal.nD Cert.ProjRefIdeal.τ).loc Cert.ProjRefIdeal.main_v0_1) = v1 c
          ∧ r.2.mem ((c.tc : Thread Cert.ProjRefIdeal.nD Cert.ProjRefIdeal.τ).loc Cert.ProjRefIdeal.main_v0_2) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def Claim : Prop :=
  ∃ (hQuant : Cert.Quant.Facts) (hQuantIdeal : Cert.QuantIdeal.Facts) (hQuantRefIdeal : Cert.QuantRefIdeal.Facts) (hProj : Cert.Proj.Facts) (hProjIdeal : Cert.ProjIdeal.Facts) (hProjRefIdeal : Cert.ProjRefIdeal.Facts),
    quiescent_Quant (hQuant := hQuant)
    ∧ quiescent_QuantIdeal (hQuantIdeal := hQuantIdeal)
    ∧ quiescent_QuantRefIdeal (hQuantRefIdeal := hQuantRefIdeal)
    ∧ quiescent_Proj (hProj := hProj)
    ∧ quiescent_ProjIdeal (hProjIdeal := hProjIdeal)
    ∧ quiescent_ProjRefIdeal (hProjRefIdeal := hProjRefIdeal)
    ∧ preserves_Quant_QuantIdeal
    ∧ algebraic_QuantIdeal_QuantRefIdeal (hQuantIdeal := hQuantIdeal) (hQuantRefIdeal := hQuantRefIdeal)
    ∧ preserves_Proj_ProjIdeal
    ∧ algebraic_ProjIdeal_ProjRefIdeal (hProjIdeal := hProjIdeal) (hProjRefIdeal := hProjRefIdeal)
-- ==== Quant.lean ====
abbrev S4x4096x5120 : Shape := ⟨3, ![4, 4096, 5120]⟩
abbrev S5120 : Shape := ⟨1, ![5120]⟩
abbrev S16384x5120 : Shape := ⟨2, ![16384, 5120]⟩
abbrev S1x5120 : Shape := ⟨2, ![1, 5120]⟩
abbrev S64x1x256 : Shape := ⟨3, ![64, 1, 256]⟩
abbrev S256x5120 : Shape := ⟨2, ![256, 5120]⟩
abbrev S1x1x256 : Shape := ⟨3, ![1, 1, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x5120, .bf16⟩
  | .hbm, ⟨1, _⟩ => ⟨S5120, .f32⟩
  | .hbm, ⟨2, _⟩ => ⟨S16384x5120, .bf16⟩
  | .hbm, ⟨3, _⟩ => ⟨S1x5120, .f32⟩
  | .hbm, ⟨4, _⟩ => ⟨S16384x5120, .i8⟩
  | .hbm, ⟨5, _⟩ => ⟨S64x1x256, .f32⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S256x5120, .i8⟩
  | .local _ .vmem, ⟨4, _⟩ => ⟨S256x5120, .i8⟩
  | .local _ .vmem, ⟨5, _⟩ => ⟨S1x1x256, .f32⟩
  | .local _ .vmem, ⟨6, _⟩ => ⟨S1x1x256, .f32⟩
  | _, _ => ⟨S4x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5120 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantRefIdeal.lean ====
abbrev S4x4096x5120 : Shape := ⟨3, ![4, 4096, 5120]⟩
abbrev S5120 : Shape := ⟨1, ![5120]⟩
abbrev S16384x5120 : Shape := ⟨2, ![16384, 5120]⟩
abbrev S64x1x256 : Shape := ⟨3, ![64, 1, 256]⟩
abbrev S4x4096 : Shape := ⟨2, ![4, 4096]⟩
abbrev S4x4096x1 : Shape := ⟨3, ![4, 4096, 1]⟩
abbrev S1x1x5120 : Shape := ⟨3, ![1, 1, 5120]⟩

abbrev nBuf : Space → Nat
  | .hbm => 4
  | .vmem => 4
  | .smem => 0
  | _ => 0

abbrev bufTy : (tb : Table) → Fin (tcTables nBuf tb) → BufTy
  | .hbm, ⟨0, _⟩ => ⟨S4x4096x5120, .bf16⟩
  | .hbm, ⟨1, _⟩ => ⟨S5120, .f32⟩
  | .hbm, ⟨2, _⟩ => ⟨S16384x5120, .i8⟩
  | .hbm, ⟨3, _⟩ => ⟨S64x1x256, .f32⟩
  | .local _ .vmem, ⟨0, _⟩ => ⟨S4x4096x5120, .bf16⟩
  | .local _ .vmem, ⟨1, _⟩ => ⟨S5120, .f32⟩
  | .local _ .vmem, ⟨2, _⟩ => ⟨S16384x5120, .i8⟩
  | .local _ .vmem, ⟨3, _⟩ => ⟨S64x1x256, .f32⟩
  | _, _ => ⟨S4x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x4096x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x5120 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proj.lean ====
abbrev S16384x5120 : Shape := ⟨2, ![16384, 5120]⟩
abbrev S64x1x256 : Shape := ⟨3, ![64, 1, 256]⟩
abbrev S5120x7168 : Shape := ⟨2, ![5120, 7168]⟩
abbrev S7168 : Shape := ⟨1, ![7168]⟩
abbrev S4x4096 : Shape := ⟨2, ![4, 4096]⟩
abbrev S64 : Shape := ⟨1, ![64]⟩
abbrev S16x1x1024 : Shape := ⟨3, ![16, 1, 1024]⟩
abbrev S1x7168 : Shape := ⟨2, ![1, 7168]⟩
abbrev S64x1 : Shape := ⟨2, ![64, 1]⟩
abbrev S16384x40x128 : Shape := ⟨3, ![16384, 40, 128]⟩
abbrev S16384x8x128 : Shape := ⟨3, ![16384, 8, 128]⟩
abbrev S1024x5120 : Shape := ⟨2, ![1024, 5120]⟩
abbrev S5120x1024 : Shape := ⟨2, ![5120, 1024]⟩
abbrev S1x1x1024 : Shape := ⟨3, ![1, 1, 1024]⟩
abbrev S1x1024 : Shape := ⟨2, ![1, 1024]⟩
abbrev S1024x8x128 : Shape := ⟨3, ![1024, 8, 128]⟩
abbrev S3x1024x128 : Shape := ⟨3, ![3, 1024, 128]⟩
abbrev S64x1024 : Shape := ⟨2, ![64, 1024]⟩
abbrev S128x1024 : Shape := ⟨2, ![128, 1024]⟩
abbrev S1024x128 : Shape := ⟨2, ![1024, 128]⟩
abbrev S1x1024x128 : Shape := ⟨3, ![1, 1024, 128]⟩
abbrev S1024x1024 : Shape := ⟨2, ![1024, 1024]⟩
abbrev S1x128 : Shape := ⟨2, ![1, 128]⟩
abbrev S1024x4x128 : Shape := ⟨3, ![1024, 4, 128]⟩
abbrev S4096x128 : Shape := ⟨2, ![4096, 128]⟩
abbrev S1024x2x128 : Shape := ⟨3, ![1024, 2, 128]⟩
abbrev S1024x1x128 : Shape := ⟨3, ![1024, 1, 128]⟩

abbrev nBuf : Space → Nat
  | .hbm => 13
  | .vmem => 18
  | .smem => 0
  | _ => 0

abbrev bufTy : (tb : Table) → Fin (tcTables nBuf tb) → BufTy
  | .hbm, ⟨0, _⟩ => ⟨S16384x5120, .i8⟩
  | .hbm, ⟨1, _⟩ => ⟨S64x1x256, .f32⟩
  | .hbm, ⟨2, _⟩ => ⟨S5120x7168, .i8⟩
  | .hbm, ⟨3, _⟩ => ⟨S7168, .f32⟩
  | .hbm, ⟨4, _⟩ => ⟨S4x4096, .i32⟩
  | .hbm, ⟨5, _⟩ => ⟨S64, .f32⟩
  | .hbm, ⟨6, _⟩ => ⟨S16x1x1024, .f32⟩
  | .hbm, ⟨7, _⟩ => ⟨S1x7168, .f32⟩
  | .hbm, ⟨8, _⟩ => ⟨S16x1x1024, .i32⟩
  | .hbm, ⟨9, _⟩ => ⟨S64x1, .f32⟩
  | .hbm, ⟨10, _⟩ => ⟨S16384x40x128, .bf16⟩
  | .hbm, ⟨11, _⟩ => ⟨S16384x8x128, .bf16⟩
  | .hbm, ⟨12, _⟩ => ⟨S16384x8x128, .bf16⟩
  | .local _ .vmem, ⟨0, _⟩ => ⟨S1024x5120, .i8⟩
  | .local _ .vmem, ⟨1, _⟩ => ⟨S1024x5120, .i8⟩
  | .local _ .vmem, ⟨2, _⟩ => ⟨S5120x1024, .i8⟩
  | .local _ .vmem, ⟨3, _⟩ => ⟨S5120x1024, .i8⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x1x1024, .i32⟩
  | .local _ .vmem, ⟨9, _⟩ => ⟨S1x1x1024, .i32⟩
  | .local _ .vmem, ⟨10, _⟩ => ⟨S64x1, .f32⟩
  | .local _ .vmem, ⟨11, _⟩ => ⟨S1024x8x128, .bf16⟩
  | .local _ .vmem, ⟨12, _⟩ => ⟨S1024x8x128, .bf16⟩
  | .local _ .vmem, ⟨13, _⟩ => ⟨S1024x8x128, .bf16⟩
  | .local _ .vmem, ⟨14, _⟩ => ⟨S1024x8x128, .bf16⟩
  | .local _ .vmem, ⟨15, _⟩ => ⟨S1024x8x128, .bf16⟩
  | .local _ .vmem, ⟨16, _⟩ => ⟨S1024x8x128, .bf16⟩
  | .local _ .vmem, ⟨17, _⟩ => ⟨S3x1024x128, .f32⟩
  | _, _ => ⟨S16384x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨2, ![16, 7], ![false, false]⟩

def k0_cond2 (i : grid0.Coords) : BitVec 1 :=
  let arg1 : BitVec 32 := BitVec.ofNat 32 (i 1).val
  let c5_i32 : BitVec 32 := 5#32
  let v8 : BitVec 1 := Scalar.cmpi .slt arg1 c5_i32
  let v9 : BitVec 32 := Scalar.extui v8
  let c0_i32_4 : BitVec 32 := 0#32
  let v10 : BitVec 1 := Scalar.cmpi .ne v9 c0_i32_4
  v10

def k0_cond3 (i : grid0.Coords) : BitVec 1 :=
  let arg1 : BitVec 32 := BitVec.ofNat 32 (i 1).val
  let c5_i32_5 : BitVec 32 := 5#32
  let v11 : BitVec 1 := Scalar.cmpi .eq arg1 c5_i32_5
  let v12 : BitVec 32 := Scalar.extui v11
  let c0_i32_6 : BitVec 32 := 0#32
  let v13 : BitVec 1 := Scalar.cmpi .ne v12 c0_i32_6
  v13

def k0_cond4 (i : grid0.Coords) : BitVec 1 :=
  let arg1 : BitVec 32 := BitVec.ofNat 32 (i 1).val
  let c6_i32 : BitVec 32 := 6#32
  let v14 : BitVec 1 := Scalar.cmpi .eq arg1 c6_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x5120 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5120x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x8x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ProjIdeal.lean ====
variable {F : FTy → Type} [FloatOps F]
-- ==== ProjRefIdeal.lean ====
abbrev S16384x5120 : Shape := ⟨2, ![16384, 5120]⟩
abbrev S64x1x256 : Shape := ⟨3, ![64, 1, 256]⟩
abbrev S5120x7168 : Shape := ⟨2, ![5120, 7168]⟩
abbrev S7168 : Shape := ⟨1, ![7168]⟩
abbrev S4x4096 : Shape := ⟨2, ![4, 4096]⟩
abbrev S64 : Shape := ⟨1, ![64]⟩
abbrev S16384x40x128 : Shape := ⟨3, ![16384, 40, 128]⟩
abbrev S16384x8x128 : Shape := ⟨3, ![16384, 8, 128]⟩
abbrev S16384x7168 : Shape := ⟨2, ![16384, 7168]⟩
abbrev S16384x1 : Shape := ⟨2, ![16384, 1]⟩
abbrev S1x7168 : Shape := ⟨2, ![1, 7168]⟩
abbrev S16384x1024 : Shape := ⟨2, ![16384, 1024]⟩
abbrev S1x64 : Shape := ⟨2, ![1, 64]⟩
abbrev S16384x64 : Shape := ⟨2, ![16384, 64]⟩
abbrev S16384x1x64 : Shape := ⟨3, ![16384, 1, 64]⟩
abbrev S16384x40x64 : Shape := ⟨3, ![16384, 40, 64]⟩
abbrev S16384x8x64 : Shape := ⟨3, ![16384, 8, 64]⟩

abbrev nBuf : Space → Nat
  | .hbm => 9
  | .vmem => 9
  | .smem => 0
  | _ => 0

abbrev bufTy : (tb : Table) → Fin (tcTables nBuf tb) → BufTy
  | .hbm, ⟨0, _⟩ => ⟨S16384x5120, .i8⟩
  | .hbm, ⟨1, _⟩ => ⟨S64x1x256, .f32⟩
  | .hbm, ⟨2, _⟩ => ⟨S5120x7168, .i8⟩
  | .hbm, ⟨3, _⟩ => ⟨S7168, .f32⟩
  | .hbm, ⟨4, _⟩ => ⟨S4x4096, .i32⟩
  | .hbm, ⟨5, _⟩ => ⟨S64, .f32⟩
  | .hbm, ⟨6, _⟩ => ⟨S16384x40x128, .bf16⟩
  | .hbm, ⟨7, _⟩ => ⟨S16384x8x128, .bf16⟩
  | .hbm, ⟨8, _⟩ => ⟨S16384x8x128, .bf16⟩
  | .local _ .vmem, ⟨0, _⟩ => ⟨S16384x5120, .i8⟩
  | .local _ .vmem, ⟨1, _⟩ => ⟨S64x1x256, .f32⟩
  | .local _ .vmem, ⟨2, _⟩ => ⟨S5120x7168, .i8⟩
  | .local _ .vmem, ⟨3, _⟩ => ⟨S7168, .f32⟩
  | .local _ .vmem, ⟨4, _⟩ => ⟨S4x4096, .i32⟩
  | .local _ .vmem, ⟨5, _⟩ => ⟨S64, .f32⟩
  | .local _ .vmem, ⟨6, _⟩ => ⟨S16384x40x128, .bf16⟩
  | .local _ .vmem, ⟨7, _⟩ => ⟨S16384x8x128, .bf16⟩
  | .local _ .vmem, ⟨8, _⟩ => ⟨S16384x8x128, .bf16⟩
  | _, _ => ⟨S16384x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x5120 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x40x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Mine.Spec.lean ====
/- The mathematics of the two calls at one token, as functions of the rows of the arguments: what both the kernel and
   the plain reference are shown to compute, element by element, over the extended reals. -/
module

public import Idealize.ShloMosaic.Lib.Pointwise
public import Idealize.ShloMosaic.PureOps.Ideal

@[expose] public section

noncomputable section

namespace Cert.Spec

open Idealize.ShloMosaic

/-- One element of a token's normalised row: the row `x` divided by its root mean square, times the gain `g`. -/
def nrm (x g : Fin 5120 → EReal) (k : Fin 5120) : EReal :=
  x k * Ideal.rsqrt (Ideal.div (∑ j, x j * x j) (Ideal.ofBits FTy.f32 0x45A00000#32) + Ideal.ofBits FTy.f32 0x3727C5AC#32) * g k

/-- The largest absolute value in a row. -/
def amax (n : Fin 5120 → EReal) : EReal :=
  (Finset.univ : Finset (Fin 5120)).fold max (FloatOps.ofBits (F := Ideal) .f32 0xFF800000#32)
    (fun k => FloatOps.absf (F := Ideal) (φ := .f32) (n k))

/-- A token's scale from its largest absolute value: that value over 127, or 1 for a row of zeros. -/
def scl (a : Ideal .f32) : Ideal .f32 :=
  Scalar.select (FloatOps.cmpf .oeq a (Scalar.ofBits .f32 0x00000000#32)) (Scalar.ofBits .f32 0x3F800000#32)
    (FloatOps.divf a (Scalar.ofBits .f32 0x42FE0000#32))

/-- An element's code: the element over the scale, rounded to an integer, clipped to ±127. -/
def code (n s : Ideal .f32) : BitVec 8 :=
  FloatOps.fptosi 8 (FloatOps.minimumf (Scalar.ofBits .f32 0x42FE0000#32)
    (FloatOps.maximumf (Scalar.ofBits .f32 0xC2FE0000#32) (FloatOps.roundeven (FloatOps.divf n s))))

/-- A token's scale from its row. -/
def rowScale (x g : Fin 5120 → EReal) : Ideal .f32 := scl (amax (nrm x g))

/-- A token's codes from its row. -/
def rowCode (x g : Fin 5120 → EReal) (k : Fin 5120) : BitVec 8 := code (nrm x g k) (rowScale x g)

end Cert.Spec

end
-- ==== Proof.Mine.QPay.lean ====
/- What one block of the quantising call computes, read at an element. -/
module

public import proofs.«01_k».proof.Proof.Gen.QuantIdeal.Skeleton
public import proofs.«01_k».proof.Proof.Mine.Spec

@[expose] public section

noncomputable section

namespace Cert.QuantIdeal.Pay

open Idealize.ShloMosaic Cert.QuantIdeal.Gen Cert.QuantIdeal Cert.Spec

/-- Row `r` of a block of tokens. -/
abbrev xrow (x : Vec Ideal S256x5120 .bf16) (r : Fin 256) : Fin 5120 → EReal := fun k => x (ix2 r k)

/-- The gain as a row. -/
abbrev grow (g : Vec Ideal S1x5120 .f32) : Fin 5120 → EReal := fun k => g (ix2 0 k)

variable (x : Vec Ideal S256x5120 .bf16) (g : Vec Ideal S1x5120 .f32) (r : Fin 256) (k : Fin 5120)

theorem pay2_apply : k0_pay2 x g (ix2 r k) = nrm (xrow x r) (grow g) k := by
  unfold nrm
  pointwise [k0_pay2]

/-- A column broadcast along the rows. -/
theorem bcol (Q : FVec Ideal S256x1 .f32) :
    broadcastTo S256x5120 Q broadcasts_S256x1_S256x5120 (ix2 r k) = Q (ix2 r 0) := by
  pointwise

/-- A vector as a column. -/
theorem ccol (Q : FVec Ideal S256 .f32) : shapeCast S256x1 Q shapeCasts_S256_S256x1 (ix2 r 0) = Q (ix1 r) := by
  pointwise

/-- The largest absolute value of each row of a block. -/
theorem rmax (P : FVec Ideal S256x5120 .f32) (hk : (0xFF800000#32 : BitVec 32) = FKind.maximumf.neutral FTy.f32 (.inl rfl)) :
    multiReduction .maximumf [1] S256 (absf P) 0xFF800000#32 reduces_S256x5120_S256 (.inl rfl) hk (ix1 r)
      = amax fun k => P (ix2 r k) := by
  refine (Ideal.multiReduction_maximumf_single _ _ _ _ _ _).trans ?_
  unfold amax
  refine congrArg (fun f => Finset.fold max _ f Finset.univ) ?_
  funext k
  refine congrArg (fun i => FloatOps.absf (F := Ideal) (φ := .f32) (P i)) ?_
  funext a
  fin_cases a <;> rfl

theorem code_apply (P Q : FVec Ideal S256x5120 .f32) (i : S256x5120.Idx) :
    fptosi 8 (minimumf (broadcast S256x5120 (Scalar.ofBits .f32 0x42FE0000#32))
      (maximumf (broadcast S256x5120 (Scalar.ofBits .f32 0xC2FE0000#32)) (roundeven (divf P Q)))) i = code (P i) (Q i) := by
  unfold code
  rfl

theorem scl_apply (P : FVec Ideal S256x1 .f32) (i : S256x1.Idx) :
    select (cmpf .oeq P (broadcast S256x1 (Scalar.ofBits .f32 0x00000000#32)))
      (broadcast S256x1 (Scalar.ofBits .f32 0x3F800000#32))
      (divf P (broadcast S256x1 (Scalar.ofBits .f32 0x42FE0000#32))) i = scl (P i) := by
  unfold scl
  rfl

theorem pay4_eq : k0_pay4 x g = fptosi 8 (minimumf (broadcast S256x5120 (Scalar.ofBits .f32 0x42FE0000#32))
    (maximumf (broadcast S256x5120 (Scalar.ofBits .f32 0xC2FE0000#32))
      (roundeven (divf (k0_pay2 x g) (broadcastTo S256x5120 (k0_pay3 x g) broadcasts_S256x1_S256x5120))))) := by
  unfold k0_pay4
  rfl

theorem pay3_eq (hk : (0xFF800000#32 : BitVec 32) = FKind.maximumf.neutral FTy.f32 (.inl rfl)) : ∃ P, P =
      shapeCast S256x1 (multiReduction .maximumf [1] S256 (absf (k0_pay2 x g)) 0xFF800000#32
        reduces_S256x5120_S256 (.inl rfl) hk) shapeCasts_S256_S256x1 ∧
    k0_pay3 x g = select (cmpf .oeq P (broadcast S256x1 (Scalar.ofBits .f32 0x00000000#32)))
      (broadcast S256x1 (Scalar.ofBits .f32 0x3F800000#32))
      (divf P (broadcast S256x1 (Scalar.ofBits .f32 0x42FE0000#32))) := by
  unfold k0_pay3
  exact ⟨_, rfl, rfl⟩

theorem pay3_apply : k0_pay3 x g (ix2 r 0) = rowScale (xrow x r) (grow g) := by
  obtain ⟨P, hP, h⟩ := pay3_eq x g rfl
  refine (congrFun h _).trans ((scl_apply P _).trans ?_)
  unfold rowScale
  refine congrArg scl ?_
  refine (congrFun hP _).trans ((ccol r _).trans ((rmax r _ _).trans ?_))
  exact congrArg amax (funext fun k => pay2_apply x g r k)

theorem pay4_apply : k0_pay4 x g (ix2 r k) = rowCode (xrow x r) (grow g) k := by
  refine (congrFun (pay4_eq x g) _).trans ((code_apply _ _ _).trans ?_)
  unfold rowCode
  exact congrArg₂ code (pay2_apply x g r k) ((bcol r k _).trans (pay3_apply x g r))

theorem lay_apply (Q : FVec Ideal S256x1 .f32) :
    shapeCast S1x1x256 (extractStridedSlice S1x256 ![0, 0] (transpose S128x256 [1, 0] (broadcastTo S256x128
      (shapeCast S256x1 Q shapeCasts_S256x1_S256x1) broadcasts_S256x1_S256x128) transposes_S256x128_p1_0_S128x256)
      slices_S128x256_o0_0_S1x256) shapeCasts_S1x256_S1x1x256 (ix3 0 0 r) = Q (ix2 r 0) := by
  pointwise

theorem pay5_apply : k0_pay1 (k0_pay5 x g) (ix3 0 0 r) = rowScale (xrow x r) (grow g) := by
  refine Eq.trans ?_ (pay3_apply x g r)
  unfold k0_pay1 k0_pay5
  exact lay_apply r (k0_pay3 x g)

end Cert.QuantIdeal.Pay

end
-- ==== Proof.Mine.RPay.lean ====
/- What the plain reference of the quantising call computes, read at an element. -/
module

public import proofs.«01_k».proof.Proof.Gen.QuantRefIdeal.Skeleton
public import proofs.«01_k».proof.Proof.Mine.Spec

@[expose] public section

noncomputable section

namespace Cert.QuantRefIdeal.Pay

open Idealize.ShloMosaic Cert.QuantRefIdeal.Gen Cert.QuantRefIdeal Cert.Spec

/-- The row of token `s` of sequence `b`. -/
abbrev xrow (x : Vec Ideal S4x4096x5120 .bf16) (b : Fin 4) (s : Fin 4096) : Fin 5120 → EReal := fun k => x (ix3 b s k)

/-- The gain as a row. -/
abbrev grow (g : Vec Ideal S5120 .f32) : Fin 5120 → EReal := fun k => g (ix1 k)

variable (x : Vec Ideal S4x4096x5120 .bf16) (g : Vec Ideal S5120 .f32) (b : Fin 4) (s : Fin 4096) (k : Fin 5120)

theorem pay1_apply : k0_pay1 x g (ix3 b s k) = nrm (xrow x b s) (grow g) k := by
  unfold nrm
  pointwise [k0_pay1]

/-- One value per token broadcast along the rows. -/
theorem bcol (Q : FVec Ideal S4x4096x1 .f32) :
    broadcastTo S4x4096x5120 Q broadcasts_S4x4096x1_S4x4096x5120 (ix3 b s k) = Q (ix3 b s 0) := by
  pointwise

theorem ccol (Q : FVec Ideal S4x4096 .f32) : shapeCast S4x4096x1 Q shapeCasts_S4x4096_S4x4096x1 (ix3 b s 0) = Q (ix2 b s) := by
  pointwise

/-- The largest absolute value of each row. -/
theorem rmax (P : FVec Ideal S4x4096x5120 .f32) (hk : (0xFF800000#32 : BitVec 32) = FKind.maximumf.neutral FTy.f32 (.inl rfl)) :
    multiReduction .maximumf [2] S4x4096 (absf P) 0xFF800000#32 reduces_S4x4096x5120_S4x4096 (.inl rfl) hk (ix2 b s)
      = amax fun k => P (ix3 b s k) := by
  refine (Ideal.multiReduction_maximumf_single _ _ _ _ _ _).trans ?_
  unfold amax
  refine congrArg (fun f => Finset.fold max _ f Finset.univ) ?_
  funext k
  refine congrArg (fun i => FloatOps.absf (F := Ideal) (φ := .f32) (P i)) ?_
  funext a
  fin_cases a <;> rfl

theorem code_apply (P Q : FVec Ideal S4x4096x5120 .f32) (i : S4x4096x5120.Idx) :
    fptosi 8 (minimumf (broadcast S4x4096x5120 (Scalar.ofBits .f32 0x42FE0000#32))
      (maximumf (broadcast S4x4096x5120 (Scalar.ofBits .f32 0xC2FE0000#32)) (roundeven (divf P Q)))) i = code (P i) (Q i) := by
  unfold code
  rfl

theorem scl_apply (P : FVec Ideal S4x4096 .f32) (i : S4x4096.Idx) :
    select (cmpf .oeq P (broadcast S4x4096 (Scalar.ofBits .f32 0x00000000#32)))
      (broadcast S4x4096 (Scalar.ofBits .f32 0x3F800000#32))
      (divf P (broadcast S4x4096 (Scalar.ofBits .f32 0x42FE0000#32))) i = scl (P i) := by
  unfold scl
  rfl

theorem pay2_eq (hk : (0xFF800000#32 : BitVec 32) = FKind.maximumf.neutral FTy.f32 (.inl rfl)) : ∃ P, P =
      multiReduction .maximumf [2] S4x4096 (absf (k0_pay1 x g)) 0xFF800000#32
        reduces_S4x4096x5120_S4x4096 (.inl rfl) hk ∧
    k0_pay2 x g = select (cmpf .oeq P (broadcast S4x4096 (Scalar.ofBits .f32 0x00000000#32)))
      (broadcast S4x4096 (Scalar.ofBits .f32 0x3F800000#32))
      (divf P (broadcast S4x4096 (Scalar.ofBits .f32 0x42FE0000#32))) := by
  unfold k0_pay2
  exact ⟨_, rfl, rfl⟩

theorem pay2_apply : k0_pay2 x g (ix2 b s) = rowScale (xrow x b s) (grow g) := by
  obtain ⟨P, hP, h⟩ := pay2_eq x g rfl
  refine (congrFun h _).trans ((scl_apply P _).trans ?_)
  unfold rowScale
  refine congrArg scl ?_
  refine (congrFun hP _).trans ((rmax b s _ _).trans ?_)
  exact congrArg amax (funext fun k => pay1_apply x g b s k)

theorem pay3_eq : k0_pay3 x g = shapeCast S16384x5120 (fptosi 8 (minimumf (broadcast S4x4096x5120 (Scalar.ofBits .f32 0x42FE0000#32))
    (maximumf (broadcast S4x4096x5120 (Scalar.ofBits .f32 0xC2FE0000#32))
      (roundeven (divf (k0_pay1 x g) (broadcastTo S4x4096x5120 (shapeCast S4x4096x1 (k0_pay2 x g) shapeCasts_S4x4096_S4x4096x1)
        broadcasts_S4x4096x1_S4x4096x5120)))))) shapeCasts_S4x4096x5120_S16384x5120 := by
  unfold k0_pay3
  rfl

theorem flat (V : IVec S4x4096x5120 8) (i : Fin 16384) :
    shapeCast S16384x5120 V shapeCasts_S4x4096x5120_S16384x5120 (ix2 i k) = V (ix3 ⟨i.val / 4096, by omega⟩ ⟨i.val % 4096, by omega⟩ k) := by
  pointwise

/-- The reference's codes: token `i`'s row, quantised. -/
theorem pay3_apply (i : Fin 16384) : k0_pay3 x g (ix2 i k)
    = rowCode (xrow x ⟨i.val / 4096, by omega⟩ ⟨i.val % 4096, by omega⟩) (grow g) k := by
  refine (congrFun (pay3_eq x g) _).trans ((flat k _ i).trans ((code_apply _ _ _).trans ?_))
  unfold rowCode
  exact congrArg₂ code (pay1_apply x g _ _ k) ((bcol _ _ k _).trans ((ccol _ _ _).trans (pay2_apply x g _ _)))

/-- The reference's scales: token `256 t + r`'s scale. -/
theorem pay4_apply (t : Fin 64) (r : Fin 256) : k0_pay4 x g (ix3 t 0 r)
    = rowScale (xrow x ⟨(256 * t.val + r.val) / 4096, by omega⟩ ⟨(256 * t.val + r.val) % 4096, by omega⟩) (grow g) := by
  refine Eq.trans ?_ (pay2_apply x g _ _)
  unfold k0_pay4
  refine shapeCast_apply _ _ _ _ ?_
  rw [Shape.rowMajor_val_three, Shape.rowMajor_val_two]
  show (256 * t.val + r.val) / 4096 * 4096 + (256 * t.val + r.val) % 4096 = (t.val * 1 + 0) * 256 + r.val
  omega

end Cert.QuantRefIdeal.Pay

end
-- ==== Proof.Mine.QVal.lean ====
/- The quantising call against its plain reference: equal codes and equal scales. -/
module

public import proofs.«01_k».proof.Defs
public import proofs.«01_k».proof.Proof.Gen.QuantIdeal.Value
public import proofs.«01_k».proof.Proof.Gen.QuantRefIdeal.Value
public import proofs.«01_k».proof.Proof.Mine.QPay
public import proofs.«01_k».proof.Proof.Mine.RPay
public import Idealize.ShloMosaic.Lib.Claim

@[expose] public section

set_option maxRecDepth 16384

noncomputable section

namespace Cert.QuantIdeal.Fin

open Cert.QuantIdeal Cert.QuantIdeal.Gen Cert.QuantIdeal.Value Idealize.ShloMosaic Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)

theorem tlt (t : Fin cfg0.N) : t.val < 64 := lt_of_lt_of_eq t.isLt (by decide : cfg0.N = 64)

/-- Row `r` of block `t` is token `256 t + r`. -/
abbrev tok (t : Fin cfg0.N) (r : Fin 256) : Fin 16384 := ⟨256 * t.val + r.val, by have := tlt t; omega⟩

theorem emb0 (t : Fin cfg0.N) (r : Fin 256) (k : Fin 5120) : ((cfg0.win 0).blk t).view.emb (ix2 r k) = ix2 (tok t r) k := by
  obtain ⟨h0, h1⟩ := idx0 t
  funext a
  apply Fin.ext
  match a with
  | ⟨0, _⟩ => show win0_0.index t (0 : Fin 2) * 256 + 1 * r.val = 256 * t.val + r.val; omega
  | ⟨1, _⟩ => show win0_0.index t (1 : Fin 2) * 5120 + 1 * k.val = k.val; omega

theorem emb1 (t : Fin cfg0.N) (k : Fin 5120) : ((cfg0.win 1).blk t).view.emb (ix2 0 k) = ix2 0 k := by
  obtain ⟨h0, h1⟩ := idx1 t
  funext a
  apply Fin.ext
  match a with
  | ⟨0, _⟩ => show win0_1.index t (0 : Fin 2) * 1 + 1 * 0 = 0; omega
  | ⟨1, _⟩ => show win0_1.index t (1 : Fin 2) * 5120 + 1 * k.val = k.val; omega

theorem emb2 (t : Fin cfg0.N) (r : Fin 256) (k : Fin 5120) : ((cfg0.win 2).blk t).view.emb (ix2 r k) = ix2 (tok t r) k := by
  obtain ⟨h0, h1⟩ := idx2 t
  funext a
  apply Fin.ext
  match a with
  | ⟨0, _⟩ => show win0_2.index t (0 : Fin 2) * 256 + 1 * r.val = 256 * t.val + r.val; omega
  | ⟨1, _⟩ => show win0_2.index t (1 : Fin 2) * 5120 + 1 * k.val = k.val; omega

theorem emb3 (t : Fin cfg0.N) (r : Fin 256) : ((cfg0.win 3).blk t).view.emb (ix3 0 0 r) = ix3 ⟨t.val, tlt t⟩ 0 r := by
  obtain ⟨h0, h1, h2⟩ := idx3 t
  funext a
  apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 256 + 1 * r.val = r.val; omega

/-- The tokens' array the call reads: the argument with its two leading axes merged. -/
theorem V_x (c : Dev nD) (i : Fin 16384) (k : Fin 5120) : (V m c main_v0 : Vec Ideal S16384x5120 .bf16) (ix2 i k)
    = (m ((c : Thread nD τ).loc main_arg0) : Vec Ideal S4x4096x5120 .bf16) (ix3 ⟨i.val / 4096, by omega⟩ ⟨i.val % 4096, by omega⟩ k) := by
  entry_read
  pointwise

/-- The gain's array the call reads: the argument as one row. -/
theorem V_g (c : Dev nD) (k : Fin 5120) : (V m c main_v1 : Vec Ideal S1x5120 .f32) (ix2 0 k)
    = (m ((c : Thread nD τ).loc main_arg1) : Vec Ideal S5120 .f32) (ix1 k) := by
  entry_read
  pointwise

theorem xrow_eq (c : Dev nD) (t : Fin cfg0.N) (r : Fin 256) : Pay.xrow (iblk m c 0 t) r
    = Cert.QuantRefIdeal.Pay.xrow (m ((c : Thread nD τ).loc main_arg0)) ⟨(256 * t.val + r.val) / 4096, by have := tlt t; omega⟩ ⟨(256 * t.val + r.val) % 4096, by omega⟩ := by
  funext k
  show (V m c main_v0 : Vec Ideal S16384x5120 .bf16) (((cfg0.win 0).blk t).view.emb (ix2 r k)) = _
  rw [emb0]
  exact V_x m c (tok t r) k

theorem grow_eq (c : Dev nD) (t : Fin cfg0.N) : Pay.grow (iblk m c 1 t)
    = Cert.QuantRefIdeal.Pay.grow (m ((c : Thread nD τ).loc main_arg1)) := by
  funext k
  show (V m c main_v1 : Vec Ideal S1x5120 .f32) (((cfg0.win 1).blk t).view.emb (ix2 0 k)) = _
  rw [emb1]
  exact V_g m c k

/-- The reference's codes of the launched arguments. -/
def R2 (c : Dev nD) : Vec Ideal S16384x5120 .i8 :=
  Cert.QuantRefIdeal.Gen.k0_pay3 (F := Ideal) (m ((c : Thread nD τ).loc main_arg0)) (m ((c : Thread nD τ).loc main_arg1))

/-- The reference's scales of the launched arguments. -/
def R3 (c : Dev nD) : Vec Ideal S64x1x256 .f32 :=
  Cert.QuantRefIdeal.Gen.k0_pay4 (F := Ideal) (m ((c : Thread nD τ).loc main_arg0)) (m ((c : Thread nD τ).loc main_arg1))

theorem out2_eq (x0 : Vec Ideal S256x5120 .bf16) (x1 : Vec Ideal S1x5120 .f32) : out0_2 x0 x1 = k0_pay4 x0 x1 := by
  unfold out0_2
  rw [View.canon_unit_zero hz2, View.ld_unit_zero (S := S256x5120) hz2 _ x0, View.ld_unit_zero (S := S1x5120) hz2 _ x1]

theorem out3_eq (x0 : Vec Ideal S256x5120 .bf16) (x1 : Vec Ideal S1x5120 .f32) : out0_3 x0 x1 = k0_pay1 (k0_pay5 x0 x1) := by
  unfold out0_3
  rw [View.canon_unit_zero hz3, View.ld_unit_zero (S := S256x5120) hz2 _ x0, View.ld_unit_zero (S := S1x5120) hz2 _ x1]

/-- What point `t` writes back are the reference's codes of its tokens. -/
theorem flushed2_eq (c : Dev nD) (t : Fin cfg0.N) :
    (dats m 0 c).flushed 2 t = ((cfg0.win 2).blk t).view.read (Elt Ideal) (R2 m c) := by
  rw [flushed2, out2_eq]
  funext j
  have hj : ∃ (r : Fin 256) (k : Fin 5120), j = ix2 r k := ⟨j 0, j 1, by funext a; fin_cases a <;> rfl⟩
  obtain ⟨r, k, rfl⟩ := hj
  show k0_pay4 (iblk m c 0 t) (iblk m c 1 t) (ix2 r k) = R2 m c (((cfg0.win 2).blk t).view.emb (ix2 r k))
  rw [emb2]
  refine (Pay.pay4_apply _ _ r k).trans (Eq.trans ?_ (Cert.QuantRefIdeal.Pay.pay3_apply _ _ k (tok t r)).symm)
  rw [xrow_eq, grow_eq]

theorem blk3 (t : Fin cfg0.N) (X : Vec Ideal S1x1x256 .f32) (Y : Vec Ideal S64x1x256 .f32)
    (h : ∀ j : S1x1x256.Idx, X j = Y (((cfg0.win 3).blk t).view.emb j)) :
    (cfg0.win 3).cut (grid0.coords t) X = ((cfg0.win 3).blk t).view.read (Elt Ideal) Y := funext h

theorem scales_eq (c : Dev nD) (t : Fin cfg0.N) (r : Fin 256) :
    k0_pay1 (k0_pay5 (iblk m c 0 t) (iblk m c 1 t)) (ix3 0 0 r) = R3 m c (ix3 ⟨t.val, tlt t⟩ 0 r) := by
  refine (Pay.pay5_apply _ _ r).trans (Eq.trans ?_ (Cert.QuantRefIdeal.Pay.pay4_apply _ _ ⟨t.val, tlt t⟩ r).symm)
  rw [xrow_eq, grow_eq]

theorem scales_blk (c : Dev nD) (t : Fin cfg0.N) (j : S1x1x256.Idx) :
    k0_pay1 (k0_pay5 (iblk m c 0 t) (iblk m c 1 t)) j = R3 m c (((cfg0.win 3).blk t).view.emb j) := by
  obtain ⟨r, hr⟩ : ∃ r : Fin 256, j = ix3 0 0 r := ⟨j 2, by
    funext a
    match a with
    | ⟨0, _⟩ => exact Subsingleton.elim (α := Fin 1) _ _
    | ⟨1, _⟩ => exact Subsingleton.elim (α := Fin 1) _ _
    | ⟨2, _⟩ => rfl⟩
  rw [hr, emb3]
  exact scales_eq m c t r

/-- What point `t` writes back are the reference's scales of its tokens. -/
theorem flushed3_eq (c : Dev nD) (t : Fin cfg0.N) :
    (dats m 0 c).flushed 3 t = ((cfg0.win 3).blk t).view.read (Elt Ideal) (R3 m c) := by
  rw [flushed3, out3_eq]
  exact blk3 t _ _ (scales_blk m c t)

theorem mem2 (t : Fin cfg0.N) (r : Fin 256) (k : Fin 5120) : (ix2 (tok t r) k : S16384x5120.Idx) ∈ ((cfg0.win 2).blk t).view.set := by
  rw [← emb2]
  exact ((cfg0.win 2).blk t).view.emb_mem_set _

theorem mem3 (t : Fin cfg0.N) (r : Fin 256) : (ix3 ⟨t.val, tlt t⟩ 0 r : S64x1x256.Idx) ∈ ((cfg0.win 3).blk t).view.set := by
  rw [← emb3]
  exact ((cfg0.win 3).blk t).view.emb_mem_set _

theorem covered2 (i : S16384x5120.Idx) : ∃ t : Fin cfg0.N, (cfg0.win 2).flush t = true ∧ i ∈ ((cfg0.win 2).blk t).view.set := by
  have h0 : (i 0).val < 16384 := (i 0).isLt
  have ht : (i 0).val / 256 < cfg0.N := lt_of_lt_of_eq (by omega : (i 0).val / 256 < 64) (by decide : 64 = cfg0.N)
  refine ⟨⟨(i 0).val / 256, ht⟩, flush0_2 _, ?_⟩
  have h := mem2 ⟨(i 0).val / 256, ht⟩ ⟨(i 0).val % 256, by omega⟩ (i 1)
  have e : (ix2 (tok ⟨(i 0).val / 256, ht⟩ ⟨(i 0).val % 256, by omega⟩) (i 1) : S16384x5120.Idx) = i := by
    funext a
    match a with
    | ⟨0, _⟩ => exact Fin.ext (by show 256 * ((i 0).val / 256) + (i 0).val % 256 = (i 0).val; omega)
    | ⟨1, _⟩ => rfl
  rwa [e] at h

theorem covered3 (i : S64x1x256.Idx) : ∃ t : Fin cfg0.N, (cfg0.win 3).flush t = true ∧ i ∈ ((cfg0.win 3).blk t).view.set := by
  have h0 : (i 0).val < 64 := (i 0).isLt
  have ht : (i 0).val < cfg0.N := lt_of_lt_of_eq h0 (by decide : 64 = cfg0.N)
  refine ⟨⟨(i 0).val, ht⟩, flush0_3 _, ?_⟩
  have h := mem3 ⟨(i 0).val, ht⟩ (i 2)
  have e : (ix3 ⟨(i 0).val, h0⟩ 0 (i 2) : S64x1x256.Idx) = i := by
    funext a
    match a with
    | ⟨0, _⟩ => rfl
    | ⟨1, _⟩ => exact Subsingleton.elim (α := Fin 1) _ _
    | ⟨2, _⟩ => rfl
  rwa [e] at h

theorem final2 (c : Dev nD) : (dats m 0 c).arrAt 2 cfg0.N = R2 m c :=
  (dats m 0 c).arrAt_eq_of_cover 2 (R2 m c) (fun t _ => flushed2_eq m c t) covered2

theorem final3 (c : Dev nD) : (dats m 0 c).arrAt 3 cfg0.N = R3 m c :=
  (dats m 0 c).arrAt_eq_of_cover 3 (R3 m c) (fun t _ => flushed3_eq m c t) covered3

end Cert.QuantIdeal.Fin

namespace Cert.QVal

open Idealize.ShloMosaic Idealize.ShloMosaic.TcCoe Idealize.SL.Sem

/-- The quantising call and its reference end with equal results. -/
theorem algebraic : @Cert.algebraic_QuantIdeal_QuantRefIdeal Cert.QuantIdeal.Gen.facts Cert.QuantRefIdeal.Gen.facts := by
  intro m g m' g' _ hargs
  refine ⟨fun c => Cert.QuantIdeal.Fin.R2 m c, fun c => Cert.QuantIdeal.Fin.R3 m c, ?_, ?_⟩
  · refine (θ_run _ _ _).mono (fun r h c => ?_) (Cert.QuantIdeal.Value.run_blocks m g)
    obtain ⟨h2, h3, ha, hb⟩ := h c
    exact ⟨h2.trans (Cert.QuantIdeal.Fin.final2 m c), h3.trans (Cert.QuantIdeal.Fin.final3 m c), ha, hb⟩
  · refine (θ_run _ _ _).mono (fun r h c => ?_) (Cert.QuantRefIdeal.Value.run m' g')
    obtain ⟨h2, h3, ha, hb⟩ := h c
    obtain ⟨e0, e1⟩ := hargs c
    exact ⟨h2.trans (congrArg₂ (Cert.QuantRefIdeal.Gen.k0_pay3 (F := Ideal)) e0 e1),
      h3.trans (congrArg₂ (Cert.QuantRefIdeal.Gen.k0_pay4 (F := Ideal)) e0 e1), ha, hb⟩

end Cert.QVal

end
-- ==== Proof.Mine.ProjIdeal.Runs.lean ====
/- What the runs of the projecting kernel share: its branch conditions in closed form and its buffers as memrefs. -/
module

public import proofs.«01_k».proof.Proof.Gen.ProjIdeal.Frame
public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of large extents: the structural look
-- recurses once per coordinate of the long axes
set_option maxRecDepth 16384

noncomputable section

namespace Cert.ProjIdeal.Hand

open Cert.ProjIdeal Cert.ProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin cfg0.N, cond0_0 (grid0.coords t) ↔ t.val % 7 = 0 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 4 — decided over the grid. -/
theorem hcond0_1 : ∀ t : Fin cfg0.N, cond0_1 (grid0.coords t) ↔ t.val % 7 ≤ 4 :=
  (by decide +kernel : ∀ t : Fin grid0.N, cond0_1 (grid0.coords t) ↔ t.val % 7 ≤ 4)

/-- The condition of the body's `scf.if` 2 (`k0_h3`), from the grid coordinates (the skeleton's scalar
    chain substituted). -/
abbrev cond0_2 (i : grid0.Coords) : Prop := k0_cond3 i = 1#1
/-- It holds at the points ≡ 5 (mod 7) — by arithmetic of the point. -/
theorem hcond0_2 : ∀ t : Fin cfg0.N, cond0_2 (grid0.coords t) ↔ t.val % 7 = 5 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_2, k0_cond3, e0, e1]
    word_cmp
   : ∀ t : Fin grid0.N, cond0_2 (grid0.coords t) ↔ t.val % 7 = 5)

/-- The condition of the body's `scf.if` 3 (`k0_h4`), from the grid coordinates (the skeleton's scalar
    chain substituted). -/
abbrev cond0_3 (i : grid0.Coords) : Prop := k0_cond4 i = 1#1
/-- It holds at the points ≡ 6 (mod 7) — by arithmetic of the point. -/
theorem hcond0_3 : ∀ t : Fin cfg0.N, cond0_3 (grid0.coords t) ↔ t.val % 7 = 6 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_3, k0_cond4, e0, e1]
    word_cmp
   : ∀ t : Fin grid0.N, cond0_3 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x5120 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x8x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x8x128 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S3x1024x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ProjIdeal.Hand

end
-- ==== Proof.Mine.ProjIdeal.Out.lean ====
/- What the body of the projecting kernel leaves in its scratch and in each output's buffer, from its input blocks. -/
module

public import proofs.«01_k».proof.Proof.Mine.ProjIdeal.Runs

@[expose] public section

-- membership in a rectangle of large extents: the structural look
-- recurses once per coordinate of the long axes
set_option maxRecDepth 16384

noncomputable section

namespace Cert.ProjIdeal.Hand

open Cert.ProjIdeal Cert.ProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of codes, of weights, of scales, of positions and of frequencies. -/
abbrev rc : Rect S1024x5120 := Rect.unit (s := S1024x5120) ![0, 0] S1024x5120.size inb_S1024x5120_S1024x5120_0_0
abbrev rm : Rect S5120x1024 := Rect.unit (s := S5120x1024) ![0, 0] S5120x1024.size inb_S5120x1024_S5120x1024_0_0
abbrev rs : Rect S1x1x1024 := Rect.unit (s := S1x1x1024) ![0, 0, 0] S1x1x1024.size inb_S1x1x1024_S1x1x1024_0_0_0
abbrev rf : Rect S64x1 := Rect.unit (s := S64x1) ![0, 0] S64x1.size inb_S64x1_S64x1_0_0
/-- 128 of the weights' scales, from column `o` on. -/
abbrev rw (o : Nat) (h : ∀ a, (![0, o] : Fin 2 → Nat) a + S1x128.size a ≤ S1x1024.size a) : Rect S1x1024 := Rect.unit (s := S1x1024) ![0, o] S1x128.size h
/-- One of the three tables of the scratch. -/
abbrev rt (o : Nat) (h : ∀ a, (![o, 0, 0] : Fin 3 → Nat) a + S1x1024x128.size a ≤ S3x1024x128.size a) : Rect S3x1024x128 := Rect.unit (s := S3x1024x128) ![o, 0, 0] S1x1024x128.size h
abbrev rt0 : Rect S3x1024x128 := rt 0 inb_S3x1024x128_S1x1024x128_0_0_0
abbrev rt1 : Rect S3x1024x128 := rt 1 inb_S3x1024x128_S1x1024x128_1_0_0
abbrev rt2 : Rect S3x1024x128 := rt 2 inb_S3x1024x128_S1x1024x128_2_0_0
/-- Two heads of an output block. -/
abbrev ro (o : Nat) (h : ∀ a, (![0, o, 0] : Fin 3 → Nat) a + S1024x2x128.size a ≤ S1024x8x128.size a) : Rect S1024x8x128 := Rect.unit (s := S1024x8x128) ![0, o, 0] S1024x2x128.size h
abbrev ro0 : Rect S1024x8x128 := ro 0 inb_S1024x8x128_S1024x2x128_0_0_0
abbrev ro2 : Rect S1024x8x128 := ro 2 inb_S1024x8x128_S1024x2x128_0_2_0
abbrev ro4 : Rect S1024x8x128 := ro 4 inb_S1024x8x128_S1024x2x128_0_4_0
abbrev ro6 : Rect S1024x8x128 := ro 6 inb_S1024x8x128_S1024x2x128_0_6_0

/-- The tables as stored in the scratch: cosines, signed sines, scales, each token's own scale multiplied in. -/
def scr (x2 : Vec F S1x1x1024 .f32) (x4 : Vec F S1x1x1024 .i32) (x5 : Vec F S64x1 .f32) : Vec F S3x1024x128 .f32 :=
  View.canon [⟨rt2, k0_pay5 (View.ld x2 rs)⟩, ⟨rt1, k0_pay4 (View.ld x5 rf) (View.ld x4 rs) (View.ld x2 rs)⟩,
    ⟨rt0, k0_pay3 (View.ld x5 rf) (View.ld x4 rs) (View.ld x2 rs)⟩]

theorem coverS (p2 p1 p0 : Vec F S1x1024x128 .f32) (y : S3x1024x128.Idx) :
    ∃ pc ∈ ([⟨rt2, p2⟩, ⟨rt1, p1⟩, ⟨rt0, p0⟩] : List (View.Piece (Elt F) S3x1024x128 .f32)), y ∈ pc.1.set :=
  View.cover_of_tiled [⟨rt2, p2⟩, ⟨rt1, p1⟩, ⟨rt0, p0⟩] S1x1024x128.size (by rfl) y

theorem coverO (p6 p4 p2 p0 : Vec F S1024x2x128 .bf16) (y : S1024x8x128.Idx) :
    ∃ pc ∈ ([⟨ro6, p6⟩, ⟨ro4, p4⟩, ⟨ro2, p2⟩, ⟨ro0, p0⟩] : List (View.Piece (Elt F) S1024x8x128 .bf16)), y ∈ pc.1.set :=
  View.cover_of_tiled [⟨ro6, p6⟩, ⟨ro4, p4⟩, ⟨ro2, p2⟩, ⟨ro0, p0⟩] S1024x2x128.size (by rfl) y

/-- Eight query heads of a block of tokens. -/
def outQ (x0 : Vec F S1024x5120 .i8) (x1 : Vec F S5120x1024 .i8) (x3 : Vec F S1x1024 .f32) (S : Vec F S3x1024x128 .f32) : Vec F S1024x8x128 .bf16 :=
  View.canon [⟨ro6, k0_pay7 (View.ld x0 rc) (View.ld x1 rm) (k0_pay17 (k0_pay6 (View.ld x0 rc) (View.ld x1 rm)) (View.ld x3 (rw 768 inb_S1x1024_S1x128_0_768)) (View.ld S rt0))
      (k0_pay18 (k0_pay6 (View.ld x0 rc) (View.ld x1 rm)) (View.ld x3 (rw 768 inb_S1x1024_S1x128_0_768)) (View.ld S rt1)) (View.ld x3 (rw 896 inb_S1x1024_S1x128_0_896)) (View.ld S rt0) (View.ld S rt1)⟩,
    ⟨ro4, k0_pay15 (k0_pay6 (View.ld x0 rc) (View.ld x1 rm)) (k0_pay13 (k0_pay6 (View.ld x0 rc) (View.ld x1 rm)) (View.ld x3 (rw 512 inb_S1x1024_S1x128_0_512))) (k0_pay14 (k0_pay6 (View.ld x0 rc) (View.ld x1 rm)) (View.ld x3 (rw 512 inb_S1x1024_S1x128_0_512)) (View.ld S rt0))
      64#32 (View.ld S rt1) (View.ld x3 (rw 640 inb_S1x1024_S1x128_0_640)) (View.ld S rt0) (View.ld S rt1)⟩,
    ⟨ro2, k0_pay12 (k0_pay6 (View.ld x0 rc) (View.ld x1 rm)) (k0_pay11 (k0_pay6 (View.ld x0 rc) (View.ld x1 rm)) (View.ld x3 (rw 256 inb_S1x1024_S1x128_0_256))) (View.ld S rt0) (View.ld S rt1) (View.ld x3 (rw 384 inb_S1x1024_S1x128_0_384)) (View.ld S rt0) (View.ld S rt1)⟩,
    ⟨ro0, k0_pay10 (k0_pay6 (View.ld x0 rc) (View.ld x1 rm)) (View.ld x3 (rw 0 inb_S1x1024_S1x128_0_0)) (View.ld S rt0) (View.ld S rt1) (View.ld x3 (rw 128 inb_S1x1024_S1x128_0_128)) (View.ld S rt0) (View.ld S rt1)⟩]

/-- The key heads of a block of tokens. -/
def outK (x0 : Vec F S1024x5120 .i8) (x1 : Vec F S5120x1024 .i8) (x3 : Vec F S1x1024 .f32) (S : Vec F S3x1024x128 .f32) : Vec F S1024x8x128 .bf16 :=
  View.canon [⟨ro6, k0_pay8 (View.ld x0 rc) (View.ld x1 rm) (k0_pay26 (k0_pay6 (View.ld x0 rc) (View.ld x1 rm)) (View.ld x3 (rw 768 inb_S1x1024_S1x128_0_768)) (View.ld S rt0))
      (k0_pay27 (k0_pay6 (View.ld x0 rc) (View.ld x1 rm)) (View.ld x3 (rw 768 inb_S1x1024_S1x128_0_768)) (View.ld S rt1)) (View.ld x3 (rw 896 inb_S1x1024_S1x128_0_896)) (View.ld S rt0) (View.ld S rt1)⟩,
    ⟨ro4, k0_pay24 (k0_pay6 (View.ld x0 rc) (View.ld x1 rm)) (k0_pay22 (k0_pay6 (View.ld x0 rc) (View.ld x1 rm)) (View.ld x3 (rw 512 inb_S1x1024_S1x128_0_512))) (k0_pay23 (k0_pay6 (View.ld x0 rc) (View.ld x1 rm)) (View.ld x3 (rw 512 inb_S1x1024_S1x128_0_512)) (View.ld S rt0))
      64#32 (View.ld S rt1) (View.ld x3 (rw 640 inb_S1x1024_S1x128_0_640)) (View.ld S rt0) (View.ld S rt1)⟩,
    ⟨ro2, k0_pay21 (k0_pay6 (View.ld x0 rc) (View.ld x1 rm)) (k0_pay20 (k0_pay6 (View.ld x0 rc) (View.ld x1 rm)) (View.ld x3 (rw 256 inb_S1x1024_S1x128_0_256))) (View.ld S rt0) (View.ld S rt1) (View.ld x3 (rw 384 inb_S1x1024_S1x128_0_384)) (View.ld S rt0) (View.ld S rt1)⟩,
    ⟨ro0, k0_pay19 (k0_pay6 (View.ld x0 rc) (View.ld x1 rm)) (View.ld x3 (rw 0 inb_S1x1024_S1x128_0_0)) (View.ld S rt0) (View.ld S rt1) (View.ld x3 (rw 128 inb_S1x1024_S1x128_0_128)) (View.ld S rt0) (View.ld S rt1)⟩]

/-- The value heads of a block of tokens. -/
def outV (x0 : Vec F S1024x5120 .i8) (x1 : Vec F S5120x1024 .i8) (x3 : Vec F S1x1024 .f32) (S : Vec F S3x1024x128 .f32) : Vec F S1024x8x128 .bf16 :=
  View.canon [⟨ro6, k0_pay9 (k0_pay34 (k0_pay6 (View.ld x0 rc) (View.ld x1 rm)) (View.ld x3 (rw 768 inb_S1x1024_S1x128_0_768)) (View.ld S rt2)) (k0_pay35 (k0_pay6 (View.ld x0 rc) (View.ld x1 rm))) (View.ld x3 (rw 896 inb_S1x1024_S1x128_0_896)) (View.ld S rt2)⟩,
    ⟨ro4, k0_pay33 (k0_pay6 (View.ld x0 rc) (View.ld x1 rm)) (View.ld x3 (rw 512 inb_S1x1024_S1x128_0_512)) (View.ld S rt2) (View.ld x3 (rw 640 inb_S1x1024_S1x128_0_640)) (View.ld S rt2)⟩,
    ⟨ro2, k0_pay32 (k0_pay29 (k0_pay6 (View.ld x0 rc) (View.ld x1 rm)) (View.ld x3 (rw 256 inb_S1x1024_S1x128_0_256)) (View.ld S rt2)) (k0_pay30 (k0_pay6 (View.ld x0 rc) (View.ld x1 rm)) (View.ld x3 (rw 384 inb_S1x1024_S1x128_0_384))) (k0_pay31 (View.ld S rt2))⟩,
    ⟨ro0, k0_pay28 (k0_pay6 (View.ld x0 rc) (View.ld x1 rm)) (View.ld x3 (rw 0 inb_S1x1024_S1x128_0_0)) (View.ld S rt2) (View.ld x3 (rw 128 inb_S1x1024_S1x128_0_128)) (View.ld S rt2)⟩]

end Cert.ProjIdeal.Hand

end
-- ==== Proof.Mine.ProjIdeal.Body.lean ====
/- The body of the projecting kernel run whole in each case of its branches, what it leaves named. -/
module

public import proofs.«01_k».proof.Proof.Mine.ProjIdeal.Out

@[expose] public section

-- membership in a rectangle of large extents: the structural look
-- recurses once per coordinate of the long axes
set_option maxRecDepth 16384

noncomputable section

namespace Cert.ProjIdeal.Hand

open Cert.ProjIdeal Cert.ProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: checking it walks past the default budget)
set_option maxHeartbeats 1000000 in
/-- The body run in case A of its branches. -/
theorem kernelRun0_A (c : Dev nD) (i : grid0.Coords) (arg2 : Memref sig .tc .vmem S1024x5120 .i8) (harg2 : arg2.IsWhole) (arg3 : Memref sig .tc .vmem S5120x1024 .i8) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1x1024 .i32) (harg6 : arg6.IsWhole) (arg7 : Memref sig .tc .vmem S64x1 .f32) (harg7 : arg7.IsWhole) (arg8 : Memref sig .tc .vmem S1024x8x128 .bf16) (harg8 : arg8.IsWhole) (arg9 : Memref sig .tc .vmem S1024x8x128 .bf16) (harg9 : arg9.IsWhole) (arg10 : Memref sig .tc .vmem S1024x8x128 .bf16) (harg10 : arg10.IsWhole) (arg11 : Memref sig .tc .vmem S3x1024x128 .f32) (harg11 : arg11.IsWhole) (hc0 : cond0_0 i) (hc1 : cond0_1 i) (hc2 : ¬cond0_2 i) (hc3 : ¬cond0_3 i)
    (x0 : Vec F S1024x5120 .i8) (x1 : Vec F S5120x1024 .i8) (x2 : Vec F S1x1x1024 .f32) (x3 : Vec F S1x1024 .f32) (x4 : Vec F S1x1x1024 .i32) (x5 : Vec F S64x1 .f32) (d7 d8 : Vec F S1024x8x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d7 ∗ owns (c : Thread nD τ) arg10 fullShare d8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outQ x0 x1 x3 (scr x2 x4 x5)) ∗ owns (c : Thread nD τ) arg9 fullShare d7 ∗ owns (c : Thread nD τ) arg10 fullShare d8 ∗ owns (c : Thread nD τ) arg11 fullShare (scr x2 x4 x5)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
    intro E K
    simp only [cc0_proj_eq_skeleton]; unfold cc0_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, Hk⟩
    subst hf0 hf1 hf2 hf3 hf4 hf5 hf7 hf8
    sl_exec (disch := first | sl_exact hc0 | sl_exact hc1 | sl_exact hc2 | sl_exact hc3)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      refine (View.read_writes_eq_canon _ _ _ (coverO _ _ _ _)).trans ?_
      have hS : View.read (Elt F) arg11.view (arg11.view.writes (Elt F) (fun _ => Classical.arbitrary _) _) = scr (View.read (Elt F) arg4.view f2) (View.read (Elt F) arg6.view f4) (View.read (Elt F) arg7.view f5) :=
        View.read_writes_eq_canon _ _ _ (coverS _ _ _)
      rw [← hS]
      rfl
    isplitl [H7]
    · iexists f7; isplitr; · ipureintro; rfl
      iexact H7
    isplitl [H8]
    · iexists f8; isplitr; · ipureintro; rfl
      iexact H8
    iexists _; isplitr; swap; · iexact HS0
    ipureintro; exact View.read_writes_eq_canon _ _ _ (coverS _ _ _)

-- (the run's proof term is large: checking it walks past the default budget)
set_option maxHeartbeats 1000000 in
/-- The body run in case B of its branches. -/
theorem kernelRun0_B (c : Dev nD) (i : grid0.Coords) (arg2 : Memref sig .tc .vmem S1024x5120 .i8) (harg2 : arg2.IsWhole) (arg3 : Memref sig .tc .vmem S5120x1024 .i8) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1x1024 .i32) (harg6 : arg6.IsWhole) (arg7 : Memref sig .tc .vmem S64x1 .f32) (harg7 : arg7.IsWhole) (arg8 : Memref sig .tc .vmem S1024x8x128 .bf16) (harg8 : arg8.IsWhole) (arg9 : Memref sig .tc .vmem S1024x8x128 .bf16) (harg9 : arg9.IsWhole) (arg10 : Memref sig .tc .vmem S1024x8x128 .bf16) (harg10 : arg10.IsWhole) (arg11 : Memref sig .tc .vmem S3x1024x128 .f32) (harg11 : arg11.IsWhole) (hc0 : ¬cond0_0 i) (hc1 : cond0_1 i) (hc2 : ¬cond0_2 i) (hc3 : ¬cond0_3 i)
    (x0 : Vec F S1024x5120 .i8) (x1 : Vec F S5120x1024 .i8) (x2 : Vec F S1x1x1024 .f32) (x3 : Vec F S1x1024 .f32) (x4 : Vec F S1x1x1024 .i32) (x5 : Vec F S64x1 .f32) (S : Vec F S3x1024x128 .f32) (d7 d8 : Vec F S1024x8x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d7 ∗ owns (c : Thread nD τ) arg10 fullShare d8 ∗ owns (c : Thread nD τ) arg11 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outQ x0 x1 x3 S) ∗ owns (c : Thread nD τ) arg9 fullShare d7 ∗ owns (c : Thread nD τ) arg10 fullShare d8 ∗ owns (c : Thread nD τ) arg11 fullShare S) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
    intro E K
    simp only [cc0_proj_eq_skeleton]; unfold cc0_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, Hk⟩
    subst hf0 hf1 hf2 hf3 hf4 hf5 hf7 hf8 hfs0
    sl_exec (disch := first | sl_exact hc0 | sl_exact hc1 | sl_exact hc2 | sl_exact hc3)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact View.read_writes_eq_canon _ _ _ (coverO _ _ _ _)
    isplitl [H7]
    · iexists f7; isplitr; · ipureintro; rfl
      iexact H7
    isplitl [H8]
    · iexists f8; isplitr; · ipureintro; rfl
      iexact H8
    iexists fs0; isplitr; · ipureintro; rfl
    iexact HS0

-- (the run's proof term is large: checking it walks past the default budget)
set_option maxHeartbeats 1000000 in
/-- The body run in case C of its branches. -/
theorem kernelRun0_C (c : Dev nD) (i : grid0.Coords) (arg2 : Memref sig .tc .vmem S1024x5120 .i8) (harg2 : arg2.IsWhole) (arg3 : Memref sig .tc .vmem S5120x1024 .i8) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1x1024 .i32) (harg6 : arg6.IsWhole) (arg7 : Memref sig .tc .vmem S64x1 .f32) (harg7 : arg7.IsWhole) (arg8 : Memref sig .tc .vmem S1024x8x128 .bf16) (harg8 : arg8.IsWhole) (arg9 : Memref sig .tc .vmem S1024x8x128 .bf16) (harg9 : arg9.IsWhole) (arg10 : Memref sig .tc .vmem S1024x8x128 .bf16) (harg10 : arg10.IsWhole) (arg11 : Memref sig .tc .vmem S3x1024x128 .f32) (harg11 : arg11.IsWhole) (hc0 : ¬cond0_0 i) (hc1 : ¬cond0_1 i) (hc2 : cond0_2 i) (hc3 : ¬cond0_3 i)
    (x0 : Vec F S1024x5120 .i8) (x1 : Vec F S5120x1024 .i8) (x2 : Vec F S1x1x1024 .f32) (x3 : Vec F S1x1024 .f32) (x4 : Vec F S1x1x1024 .i32) (x5 : Vec F S64x1 .f32) (S : Vec F S3x1024x128 .f32) (d6 d8 : Vec F S1024x8x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ owns (c : Thread nD τ) arg10 fullShare d8 ∗ owns (c : Thread nD τ) arg11 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare (outK x0 x1 x3 S) ∗ owns (c : Thread nD τ) arg10 fullShare d8 ∗ owns (c : Thread nD τ) arg11 fullShare S) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
    intro E K
    simp only [cc0_proj_eq_skeleton]; unfold cc0_proj_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    subst hf0 hf1 hf2 hf3 hf4 hf5 hf6 hf8 hfs0
    sl_exec (disch := first | sl_exact hc0 | sl_exact hc1 | sl_exact hc2 | sl_exact hc3)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr; swap; · iexact H7
      ipureintro
      exact View.read_writes_eq_canon _ _ _ (coverO _ _ _ _)
    isplitl [H8]
    · iexists f8; isplitr; · ipureintro; rfl
      iexact H8
    iexists fs0; isplitr; · ipureintro; rfl
    iexact HS0

-- (the run's proof term is large: checking it walks past the default budget)
set_option maxHeartbeats 1000000 in
/-- The body run in case D of its branches. -/
theorem kernelRun0_D (c : Dev nD) (i : grid0.Coords) (arg2 : Memref sig .tc .vmem S1024x5120 .i8) (harg2 : arg2.IsWhole) (arg3 : Memref sig .tc .vmem S5120x1024 .i8) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1x1024 .i32) (harg6 : arg6.IsWhole) (arg7 : Memref sig .tc .vmem S64x1 .f32) (harg7 : arg7.IsWhole) (arg8 : Memref sig .tc .vmem S1024x8x128 .bf16) (harg8 : arg8.IsWhole) (arg9 : Memref sig .tc .vmem S1024x8x128 .bf16) (harg9 : arg9.IsWhole) (arg10 : Memref sig .tc .vmem S1024x8x128 .bf16) (harg10 : arg10.IsWhole) (arg11 : Memref sig .tc .vmem S3x1024x128 .f32) (harg11 : arg11.IsWhole) (hc0 : ¬cond0_0 i) (hc1 : ¬cond0_1 i) (hc2 : ¬cond0_2 i) (hc3 : cond0_3 i)
    (x0 : Vec F S1024x5120 .i8) (x1 : Vec F S5120x1024 .i8) (x2 : Vec F S1x1x1024 .f32) (x3 : Vec F S1x1024 .f32) (x4 : Vec F S1x1x1024 .i32) (x5 : Vec F S64x1 .f32) (S : Vec F S3x1024x128 .f32) (d6 d7 : Vec F S1024x8x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ (∃ d, owns (c : Thread nD τ) arg10 fullShare d) ∗ owns (c : Thread nD τ) arg11 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare (outV x0 x1 x3 S) ∗ owns (c : Thread nD τ) arg11 fullShare S) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
    intro E K
    simp only [cc0_proj_eq_skeleton]; unfold cc0_proj_skel
    simp only [k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    subst hf0 hf1 hf2 hf3 hf4 hf5 hf6 hf7 hfs0
    sl_exec (disch := first | sl_exact hc0 | sl_exact hc1 | sl_exact hc2 | sl_exact hc3)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr; swap; · iexact H8
      ipureintro
      exact View.read_writes_eq_canon _ _ _ (coverO _ _ _ _)
    iexists fs0; isplitr; · ipureintro; rfl
    iexact HS0

end Cert.ProjIdeal.Hand

end
-- ==== Proof.Mine.ProjIdeal.Frame.lean ====
/- The projecting kernel's pipeline: what it carries from point to point, its outputs named, its run, and its frame. -/
module

public import proofs.«01_k».proof.Proof.Mine.ProjIdeal.Body
public import Idealize.ShloMosaic.Lib.Claim
public import Idealize.ShloMosaic.Lib.Pipeline.TableIdle

@[expose] public section

-- membership in a rectangle of large extents: the structural look
-- recurses once per coordinate of the long axes
set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Which points store and write back what -/

theorem flush6 (t : Fin cfg0.N) : (cfg0.win 6).flush t = !decide (t.val % 7 = 4 ∨ t.val % 7 = 5) :=
  (Pipeline.Window.flush_eq_flushF win0_6 t).trans
    ((by decide +kernel : ∀ t : Fin grid0.N, win0_6.flushF t = !decide (t.val % 7 = 4 ∨ t.val % 7 = 5)) t)

theorem idle6 (t : Fin cfg0.N) : cfg0.idle 6 (grid0.coords t) = !decide (t.val % 7 ≤ 4) :=
  (by decide +kernel : ∀ t : Fin grid0.N, idle0 6 (grid0.coords t) = !decide (t.val % 7 ≤ 4)) t

theorem idle7 (t : Fin cfg0.N) : cfg0.idle 7 (grid0.coords t) = !decide (t.val % 7 = 5) :=
  (by decide +kernel : ∀ t : Fin grid0.N, idle0 7 (grid0.coords t) = !decide (t.val % 7 = 5)) t

theorem idle8 (t : Fin cfg0.N) : cfg0.idle 8 (grid0.coords t) = !decide (t.val % 7 = 6) :=
  (by decide +kernel : ∀ t : Fin grid0.N, idle0 8 (grid0.coords t) = !decide (t.val % 7 = 6)) t

theorem flush7 (t : Fin cfg0.N) : (cfg0.win 7).flush t = decide (t.val % 7 = 6) := by
  rw [Bool.eq_iff_iff, decide_eq_true_iff]; exact flush0_7 t

theorem flush8 (t : Fin cfg0.N) : (cfg0.win 8).flush t = decide (t.val % 7 = 6) := by
  rw [Bool.eq_iff_iff, decide_eq_true_iff]; exact flush0_8 t

theorem lt_N (t : Fin cfg0.N) : t.val < 112 := lt_of_lt_of_eq t.isLt (show cfg0.N = 112 from N_0)

theorem pt_lt (n k : Nat) (hn : n < 112) (hk : k < 7) : 7 * (n / 7) + k < 112 := by omega

/-- Point `k` of the row of `t`. -/
def pt (t : Fin cfg0.N) (k : Nat) (hk : k < 7) : Fin cfg0.N :=
  ⟨7 * (t.val / 7) + k, lt_of_lt_of_eq (pt_lt t.val k (lt_N t) hk) (show 112 = cfg0.N from N_0.symm)⟩

theorem pt_congr {t t' : Fin cfg0.N} (h : t.val / 7 = t'.val / 7) (k : Nat) (hk : k < 7) : pt t k hk = pt t' k hk := by
  unfold pt; simp only [h]

theorem pt_self (t : Fin cfg0.N) (k : Nat) (hk : k < 7) (h : t.val % 7 = k) : pt t k hk = t := by
  unfold pt; apply Fin.ext; show 7 * (t.val / 7) + k = t.val; omega

/-- The point whose query heads the first output's buffer holds after point `t`. -/
def ptQ (t : Fin cfg0.N) : Fin cfg0.N := if t.val % 7 ≤ 4 then t else pt t 4 (by omega)

theorem ptQ_self (t : Fin cfg0.N) (h : t.val % 7 ≤ 4) : ptQ t = t := by unfold ptQ; rw [if_pos h]

/-- What the scratch holds through the row of `t`: the tables of the row's first point. -/
def tabs (c : Dev nD) (t : Fin cfg0.N) : Vec F S3x1024x128 .f32 :=
  scr (iblk m c 2 (pt t 0 (by omega))) (iblk m c 4 (pt t 0 (by omega))) (iblk m c 5 (pt t 0 (by omega)))

theorem tabs_congr (c : Dev nD) {t t' : Fin cfg0.N} (h : t.val / 7 = t'.val / 7) : tabs m c t = tabs m c t' := by
  unfold tabs; rw [pt_congr h]

theorem tabs0 (c : Dev nD) (t : Fin cfg0.N) (h : t.val % 7 = 0) : tabs m c t = scr (iblk m c 2 t) (iblk m c 4 t) (iblk m c 5 t) := by
  unfold tabs; rw [pt_self t 0 _ h]

def leftQ (c : Dev nD) (t : Fin cfg0.N) : Vec F S1024x8x128 .bf16 := outQ (iblk m c 0 t) (iblk m c 1 t) (iblk m c 3 t) (tabs m c t)
def leftK (c : Dev nD) (t : Fin cfg0.N) : Vec F S1024x8x128 .bf16 := outK (iblk m c 0 t) (iblk m c 1 t) (iblk m c 3 t) (tabs m c t)
def leftV (c : Dev nD) (t : Fin cfg0.N) : Vec F S1024x8x128 .bf16 := outV (iblk m c 0 t) (iblk m c 1 t) (iblk m c 3 t) (tabs m c t)

theorem inv_lt (n : Fin (cfg0.N + 1)) (h : ¬ n.val % 7 = 0) : n.val < cfg0.N := by
  have h1 : n.val < 113 := lt_of_lt_of_eq n.isLt (congrArg (· + 1) (show cfg0.N = 112 from N_0))
  have h2 : n.val < 112 := by omega
  exact lt_of_lt_of_eq h2 (show 112 = cfg0.N from N_0.symm)

/-- The invariant before point `n`: within a row of points the scratch holds the row's tables. -/
def inv (c : Dev nD) (n : Fin (cfg0.N + 1)) : sProp 𝕄 :=
  if h : n.val % 7 = 0 then Pipeline.ΦA spec0 c
  else iprop(owns (c : Thread nD τ) scM0_0 fullShare (tabs m c ⟨n.val, inv_lt n h⟩)
    ∗ (∃ r, prngReg c r))

/-- The pipeline's data: inputs at their blocks, each output's buffer at what the last storing point of the row left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => leftQ m c (ptQ t)
    | ⟨7, _⟩ => leftK m c (pt t 5 (by omega))
    | ⟨8, _⟩ => leftV m c (pt t 6 (by omega))
  Φ n := inv m c n
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_6 (c : Dev nD) (t : Fin cfg0.N) : (dats m 0 c).after 6 t = leftQ m c (ptQ t) := by dsimp only [dats]
theorem after0_7 (c : Dev nD) (t : Fin cfg0.N) : (dats m 0 c).after 7 t = leftK m c (pt t 5 (by omega)) := by dsimp only [dats]
theorem after0_8 (c : Dev nD) (t : Fin cfg0.N) : (dats m 0 c).after 8 t = leftV m c (pt t 6 (by omega)) := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem inv_first (c : Dev nD) (t : Fin cfg0.N) (h : t.val % 7 = 0) : (dats m 0 c).Φ t.castSucc = Pipeline.ΦA spec0 c := by
  show inv m c t.castSucc = _; unfold inv; exact dif_pos h
theorem inv_in (c : Dev nD) (t : Fin cfg0.N) (h : ¬ t.val % 7 = 0) :
    (dats m 0 c).Φ t.castSucc = iprop(owns (c : Thread nD τ) scM0_0 fullShare (tabs m c t) ∗ (∃ r, prngReg c r)) := by
  show inv m c t.castSucc = _; unfold inv; exact dif_neg h
theorem inv_next (c : Dev nD) (t : Fin cfg0.N) (h : ¬ t.val % 7 = 6) :
    (dats m 0 c).Φ t.succ = iprop(owns (c : Thread nD τ) scM0_0 fullShare (tabs m c t) ∗ (∃ r, prngReg c r)) := by
  show inv m c t.succ = _
  unfold inv
  have h' : ¬ (t.succ).val % 7 = 0 := by show ¬ (t.val + 1) % 7 = 0; omega
  rw [dif_neg h', tabs_congr m c (t' := t) (show (t.val + 1) / 7 = t.val / 7 by omega)]
theorem inv_last (c : Dev nD) (t : Fin cfg0.N) (h : t.val % 7 = 6) : (dats m 0 c).Φ t.succ = Pipeline.ΦA spec0 c := by
  show inv m c t.succ = _
  unfold inv
  exact dif_pos (show (t.val + 1) % 7 = 0 by omega)

/-! ## What the outputs' buffers hold where a point finds them -/

/-- At a point that is not the first, after a point that stored and did not write back. -/
theorem before_stored (c : Dev nD) (w : Fin cfg0.W) (hw : (cfg0.win w).isOut = true)
    (hclip : ∀ (i : cfg0.grid.Coords) a, (cfg0.win w).clip i a = none) (t t' : Fin cfg0.N) (ht : t.val = t'.val + 1)
    (hf : (cfg0.win w).flush t' = false) (hi : cfg0.idle w (grid0.coords t') = false) (d) :
    (dats m 0 c).before w t d = (dats m 0 c).after w t' := by
  have e : (⟨t.val - 1, Nat.lt_of_le_of_lt (Nat.sub_le _ _) t.isLt⟩ : Fin cfg0.N) = t' := Fin.ext (by show t.val - 1 = t'.val; omega)
  rw [Dat.before_of_pos _ w t (by omega) ((cfg0.win w).fetch_out hw _), e, hf, if_neg Bool.false_ne_true]
  unfold Dat.left
  rw [hi]
  show (dats m 0 c).kept w t' d = _
  unfold Dat.kept
  rw [Pipeline.fill_of_clip_none (cfg := cfg0) w _ (hclip _) d ((dats m 0 c).after w _), Pipeline.Window.fill_cut]

/-- After an idle point that did not write back. -/
theorem before_idle (c : Dev nD) (w : Fin cfg0.W) (hw : (cfg0.win w).isOut = true) (t t' : Fin cfg0.N) (ht : t.val = t'.val + 1)
    (hf : (cfg0.win w).flush t' = false) (hi : cfg0.idle w (grid0.coords t') = true) (d) :
    (dats m 0 c).before w t d = (dats m 0 c).before w t' d := by
  have e : (⟨t.val - 1, Nat.lt_of_le_of_lt (Nat.sub_le _ _) t.isLt⟩ : Fin cfg0.N) = t' := Fin.ext (by show t.val - 1 = t'.val; omega)
  rw [Dat.before_of_pos _ w t (by omega) ((cfg0.win w).fetch_out hw _), e, hf, if_neg Bool.false_ne_true]
  unfold Dat.left
  rw [hi]

theorem before6 (c : Dev nD) (t : Fin cfg0.N) (h : t.val % 7 = 6) (d) : (dats m 0 c).before 6 t d = (dats m 0 c).after 6 t := by
  have h1 := lt_N t
  have e5 : (pt t 5 (by omega)).val = 7 * (t.val / 7) + 5 := rfl
  have e4 : (pt t 4 (by omega)).val = 7 * (t.val / 7) + 4 := rfl
  rw [before_idle m c 6 rfl t (pt t 5 (by omega)) (by omega)
      ((flush6 _).trans (by rw [decide_eq_true (by omega)]; rfl)) ((idle6 _).trans (by rw [decide_eq_false (by omega)]; rfl)),
    before_stored m c 6 rfl (fun _ _ => rfl) _ (pt t 4 (by omega)) (by omega)
      ((flush6 _).trans (by rw [decide_eq_true (by omega)]; rfl)) ((idle6 _).trans (by rw [decide_eq_true (by omega)]; rfl)),
    after0_6, after0_6, ptQ_self _ (by omega)]
  unfold ptQ
  rw [if_neg (by omega)]

theorem before7 (c : Dev nD) (t : Fin cfg0.N) (h : t.val % 7 = 6) (d) : (dats m 0 c).before 7 t d = (dats m 0 c).after 7 t := by
  have h1 := lt_N t
  have e5 : (pt t 5 (by omega)).val = 7 * (t.val / 7) + 5 := rfl
  rw [before_stored m c 7 rfl (fun _ _ => rfl) _ (pt t 5 (by omega)) (by omega)
      ((flush7 _).trans (by rw [decide_eq_false (by omega)])) ((idle7 _).trans (by rw [decide_eq_true (by omega)]; rfl)),
    after0_7, after0_7, pt_congr (t := pt t 5 (by omega)) (t' := t) (by omega)]

/-! ## What a point leaves in each buffer -/

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]
theorem leaves4 (c : Dev nD) (t : Fin cfg0.N) : (dats m 0 c).leavesExact 4 t = owns (c : Thread nD τ) (ms0_4 t) fullShare (iblk m c 4 t) := by
  unfold Dat.leavesExact; rw [liveAt0_4 t, after0_4]
theorem leaves5 (c : Dev nD) (t : Fin cfg0.N) : (dats m 0 c).leavesExact 5 t = owns (c : Thread nD τ) (ms0_5 t) fullShare (iblk m c 5 t) := by
  unfold Dat.leavesExact; rw [liveAt0_5 t, after0_5]

theorem leaves_live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact; rw [hi]
theorem leaves_flush (c : Dev nD) (w : Fin cfg0.W) (t : Fin cfg0.N) (hi : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

theorem leaves6_live (c : Dev nD) (t : Fin cfg0.N) (h : t.val % 7 ≤ 4) :
    (dats m 0 c).leavesExact 6 t = owns (c : Thread nD τ) (ms0_6 t) fullShare (leftQ m c t) :=
  (leaves_live m c 6 t ((idle6 t).trans (by rw [decide_eq_true h]; rfl))).trans (by rw [after0_6, ptQ_self t h])
theorem leaves6_idle (c : Dev nD) (t : Fin cfg0.N) (h : t.val % 7 = 5) :
    (dats m 0 c).leavesExact 6 t = iprop(∃ d, owns (c : Thread nD τ) (ms0_6 t) fullShare ((dats m 0 c).before 6 t d)) :=
  (dats m 0 c).leavesExact_idle 6 t ((idle6 t).trans (by rw [decide_eq_false (by omega)]; rfl)) ((flush6 t).trans (by rw [decide_eq_true (by omega)]; rfl))
theorem leaves6_last (c : Dev nD) (t : Fin cfg0.N) (h : t.val % 7 = 6) :
    (dats m 0 c).leavesExact 6 t = owns (c : Thread nD τ) (ms0_6 t) fullShare ((dats m 0 c).after 6 t) :=
  leaves_flush m c 6 t ((idle6 t).trans (by rw [decide_eq_false (by omega)]; rfl)) ((flush6 t).trans (by rw [decide_eq_false (by omega)]; rfl))
theorem leaves7_idle (c : Dev nD) (t : Fin cfg0.N) (h : t.val % 7 ≤ 4) :
    (dats m 0 c).leavesExact 7 t = iprop(∃ d, owns (c : Thread nD τ) (ms0_7 t) fullShare ((dats m 0 c).before 7 t d)) :=
  (dats m 0 c).leavesExact_idle 7 t ((idle7 t).trans (by rw [decide_eq_false (by omega)]; rfl)) ((flush7 t).trans (by rw [decide_eq_false (by omega)]))
theorem leaves7_live (c : Dev nD) (t : Fin cfg0.N) (h : t.val % 7 = 5) :
    (dats m 0 c).leavesExact 7 t = owns (c : Thread nD τ) (ms0_7 t) fullShare (leftK m c t) :=
  (leaves_live m c 7 t ((idle7 t).trans (by rw [decide_eq_true h]; rfl))).trans (by rw [after0_7, pt_self t 5 _ h])
theorem leaves7_last (c : Dev nD) (t : Fin cfg0.N) (h : t.val % 7 = 6) :
    (dats m 0 c).leavesExact 7 t = owns (c : Thread nD τ) (ms0_7 t) fullShare ((dats m 0 c).after 7 t) :=
  leaves_flush m c 7 t ((idle7 t).trans (by rw [decide_eq_false (by omega)]; rfl)) ((flush7 t).trans (by rw [decide_eq_true (by omega)]))
theorem leaves8_idle (c : Dev nD) (t : Fin cfg0.N) (h : t.val % 7 ≤ 5) :
    (dats m 0 c).leavesExact 8 t = iprop(∃ d, owns (c : Thread nD τ) (ms0_8 t) fullShare ((dats m 0 c).before 8 t d)) :=
  (dats m 0 c).leavesExact_idle 8 t ((idle8 t).trans (by rw [decide_eq_false (by omega)]; rfl)) ((flush8 t).trans (by rw [decide_eq_false (by omega)]))
theorem leaves8_live (c : Dev nD) (t : Fin cfg0.N) (h : t.val % 7 = 6) :
    (dats m 0 c).leavesExact 8 t = owns (c : Thread nD τ) (ms0_8 t) fullShare (leftV m c t) :=
  (leaves_live m c 8 t ((idle8 t).trans (by rw [decide_eq_true h]; rfl))).trans (by rw [after0_8, pt_self t 6 _ h])

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3200000 in
theorem sound_A (c : Dev nD) (t : Fin cfg0.N) (h : t.val % 7 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [inv_first m c t h, inv_next m c t (by omega), PhiA0_eq]
  rw [leaves0, leaves1, leaves2, leaves3, leaves4, leaves5, leaves6_live m c t (by omega), leaves7_idle m c t (by omega), leaves8_idle m c t (by omega)]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HS0]; · iexact HS0
  iintro ⟨H0, H1, H2, H3, H4, H5, H6, H7, H8, HS0⟩
  isplitl [HS0 Hg]
  · isplitl [HS0]
    · have e := tabs0 m c t h; rw [e]; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [show leftQ m c t = outQ (iblk m c 0 t) (iblk m c 1 t) (iblk m c 3 t) (scr (iblk m c 2 t) (iblk m c 4 t) (iblk m c 5 t)) from by unfold leftQ; rw [tabs0 m c t h]]; iexact H6
  isplitl [H7]; · iexists _; iexact H7
  iexists _; iexact H8

set_option maxHeartbeats 3200000 in
theorem sound_B (c : Dev nD) (t : Fin cfg0.N) (h : 1 ≤ t.val % 7 ∧ t.val % 7 ≤ 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [inv_in m c t (by omega), inv_next m c t (by omega)]
  rw [leaves0, leaves1, leaves2, leaves3, leaves4, leaves5, leaves6_live m c t (by omega), leaves7_idle m c t (by omega), leaves8_idle m c t (by omega)]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t) _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (tabs m c t) _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

set_option maxHeartbeats 3200000 in
theorem sound_C (c : Dev nD) (t : Fin cfg0.N) (h : t.val % 7 = 5) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [inv_in m c t (by omega), inv_next m c t (by omega)]
  rw [leaves0, leaves1, leaves2, leaves3, leaves4, leaves5, leaves6_idle m c t (by omega), leaves7_live m c t (by omega), leaves8_idle m c t (by omega)]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_C c (grid0.coords t) _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) (iblk m c 5 t) (tabs m c t) _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iexists _; iexact H8

set_option maxHeartbeats 3200000 in
theorem sound_D (c : Dev nD) (t : Fin cfg0.N) (h : t.val % 7 = 6) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before6 m c t h, before7 m c t h]
  rw [show (dats m 0 c).owesAt () t.succ = (dats m 0 c).owesAt () t.castSucc from rfl]
  rw [inv_in m c t (by omega), inv_last m c t (by omega), PhiA0_eq]
  rw [leaves0, leaves1, leaves2, leaves3, leaves4, leaves5, leaves6_last m c t (by omega), leaves7_last m c t (by omega), leaves8_live m c t (by omega)]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_D c (grid0.coords t) _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (iblk m c 0 t) (iblk m c 1 t) (iblk m c 2 t) (iblk m c 3 t) (iblk m c 4 t) (iblk m c 5 t) (tabs m c t) _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, H8, HS0⟩
  isplitl [HS0 Hg]
  · isplitl [HS0]
    · iexists _; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  by_cases h0 : t.val % 7 = 0
  · exact sound_A m c t h0
  · by_cases h1 : t.val % 7 ≤ 4
    · exact sound_B m c t ⟨by omega, h1⟩
    · by_cases h2 : t.val % 7 = 5
      · exact sound_C m c t h2
      · exact sound_D m c t (by omega)

theorem inv_enter (c : Dev nD) : Pipeline.ΦA spec0 c ⊢ (dats m 0 c).Φ 0 := by
  have e : inv m c 0 = Pipeline.ΦA spec0 c := by unfold inv; exact dif_pos rfl
  exact (show (dats m 0 c).Φ 0 = Pipeline.ΦA spec0 c from e) ▸ BIBase.Entails.rfl
theorem inv_leave (c : Dev nD) : (dats m 0 c).Φ (Fin.last cfg0.N) ⊢ Pipeline.ΦA spec0 c := by
  have e : inv m c (Fin.last cfg0.N) = Pipeline.ΦA spec0 c := by unfold inv; exact dif_pos (show cfg0.N % 7 = 0 from congrArg (· % 7) (show cfg0.N = 112 from N_0))
  exact (show (dats m 0 c).Φ (Fin.last cfg0.N) = Pipeline.ΦA spec0 c from e) ▸ BIBase.Entails.rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_enter m) (hout := inv_leave m)

theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.ProjIdeal.Hand

end
-- ==== Proof.Mine.ProjIdeal.Heads.lean ====
/- The heads of the projecting kernel's output blocks, as operations and read at an element. -/
module

public import proofs.«01_k».proof.Proof.Mine.ProjIdeal.Out
public import Idealize.ShloMosaic.Lib.Pointwise
public import Idealize.ShloMosaic.PureOps.Ideal

@[expose] public section

set_option maxRecDepth 16384

noncomputable section

namespace Cert.ProjIdeal.Heads

open Idealize.ShloMosaic Cert.ProjIdeal.Gen Cert.ProjIdeal Cert.ProjIdeal.Hand

section Ops

variable {F : FTy → Type} [FloatOps F]

/-- One head: 128 columns of the products from `o` on, times their weights' scales. -/
def head (o : Nat) (h : S1024x1024.Slices ![0, o] S1024x128) (A : FVec F S1024x1024 .f32) (w : Vec F S1x128 .f32) : FVec F S1024x128 .f32 :=
  mulf (extractStridedSlice S1024x128 ![0, o] A h) (broadcastTo S1024x128 (shapeCast S1x128 w shapeCasts_S1x128_S1x128) broadcasts_S1x128_S1024x128)

/-- A head times a table. -/
def sca (t : FVec F S1024x128 .f32) (T : Vec F S1x1024x128 .f32) : FVec F S1024x128 .f32 :=
  mulf t (shapeCast S1024x128 T shapeCasts_S1x1024x128_S1024x128)

/-- A head rotated with the two tables. -/
def rot (t : FVec F S1024x128 .f32) (T0 T1 : Vec F S1x1024x128 .f32) : FVec F S1024x128 .f32 :=
  addf (sca t T0) (sca (dynamicRotate 1 64#32 none t rotates_S1024x128_d1) T1)

/-- Two heads stored together. -/
def pair (lo hi : FVec F S1024x128 .f32) : Vec F S1024x2x128 .bf16 :=
  interleaveRows S1024x2x128 (shapeCast S1024x1x128 (truncf .bf16 lo) shapeCasts_S1024x128_S1024x1x128)
    (shapeCast S1024x1x128 (truncf .bf16 hi) shapeCasts_S1024x128_S1024x1x128) bitcasts_S1024x2x128_w16_S1024x1x128_w32

/-- Eight rotated heads from a block's products. -/
def ropes (A : FVec F S1024x1024 .f32) (x3 : Vec F S1x1024 .f32) (S : Vec F S3x1024x128 .f32) : Vec F S1024x8x128 .bf16 :=
  View.canon [
    ⟨ro6, pair (rot (head 768 slices_S1024x1024_o0_768_S1024x128 A (View.ld x3 (rw 768 inb_S1x1024_S1x128_0_768))) (View.ld S rt0) (View.ld S rt1))
      (rot (head 896 slices_S1024x1024_o0_896_S1024x128 A (View.ld x3 (rw 896 inb_S1x1024_S1x128_0_896))) (View.ld S rt0) (View.ld S rt1))⟩,
    ⟨ro4, pair (rot (head 512 slices_S1024x1024_o0_512_S1024x128 A (View.ld x3 (rw 512 inb_S1x1024_S1x128_0_512))) (View.ld S rt0) (View.ld S rt1))
      (rot (head 640 slices_S1024x1024_o0_640_S1024x128 A (View.ld x3 (rw 640 inb_S1x1024_S1x128_0_640))) (View.ld S rt0) (View.ld S rt1))⟩,
    ⟨ro2, pair (rot (head 256 slices_S1024x1024_o0_256_S1024x128 A (View.ld x3 (rw 256 inb_S1x1024_S1x128_0_256))) (View.ld S rt0) (View.ld S rt1))
      (rot (head 384 slices_S1024x1024_o0_384_S1024x128 A (View.ld x3 (rw 384 inb_S1x1024_S1x128_0_384))) (View.ld S rt0) (View.ld S rt1))⟩,
    ⟨ro0, pair (rot (head 0 slices_S1024x1024_o0_0_S1024x128 A (View.ld x3 (rw 0 inb_S1x1024_S1x128_0_0))) (View.ld S rt0) (View.ld S rt1))
      (rot (head 128 slices_S1024x1024_o0_128_S1024x128 A (View.ld x3 (rw 128 inb_S1x1024_S1x128_0_128))) (View.ld S rt0) (View.ld S rt1))⟩]

/-- Eight value heads from a block's products. -/
def vals (A : FVec F S1024x1024 .f32) (x3 : Vec F S1x1024 .f32) (S : Vec F S3x1024x128 .f32) : Vec F S1024x8x128 .bf16 :=
  View.canon [
    ⟨ro6, pair (sca (head 768 slices_S1024x1024_o0_768_S1024x128 A (View.ld x3 (rw 768 inb_S1x1024_S1x128_0_768))) (View.ld S rt2))
      (sca (head 896 slices_S1024x1024_o0_896_S1024x128 A (View.ld x3 (rw 896 inb_S1x1024_S1x128_0_896))) (View.ld S rt2))⟩,
    ⟨ro4, pair (sca (head 512 slices_S1024x1024_o0_512_S1024x128 A (View.ld x3 (rw 512 inb_S1x1024_S1x128_0_512))) (View.ld S rt2))
      (sca (head 640 slices_S1024x1024_o0_640_S1024x128 A (View.ld x3 (rw 640 inb_S1x1024_S1x128_0_640))) (View.ld S rt2))⟩,
    ⟨ro2, pair (sca (head 256 slices_S1024x1024_o0_256_S1024x128 A (View.ld x3 (rw 256 inb_S1x1024_S1x128_0_256))) (View.ld S rt2))
      (sca (head 384 slices_S1024x1024_o0_384_S1024x128 A (View.ld x3 (rw 384 inb_S1x1024_S1x128_0_384))) (View.ld S rt2))⟩,
    ⟨ro0, pair (sca (head 0 slices_S1024x1024_o0_0_S1024x128 A (View.ld x3 (rw 0 inb_S1x1024_S1x128_0_0))) (View.ld S rt2))
      (sca (head 128 slices_S1024x1024_o0_128_S1024x128 A (View.ld x3 (rw 128 inb_S1x1024_S1x128_0_128))) (View.ld S rt2))⟩]

theorem outQ_eq (x0 : Vec F S1024x5120 .i8) (x1 : Vec F S5120x1024 .i8) (x3 : Vec F S1x1024 .f32) (S : Vec F S3x1024x128 .f32) :
    outQ x0 x1 x3 S = ropes (k0_pay6 (View.ld x0 rc) (View.ld x1 rm)) x3 S := by
  unfold outQ ropes k0_pay7 k0_pay10 k0_pay12 k0_pay15 k0_pay17 k0_pay18 k0_pay16 k0_pay14 k0_pay13 k0_pay11; rfl

theorem outK_eq (x0 : Vec F S1024x5120 .i8) (x1 : Vec F S5120x1024 .i8) (x3 : Vec F S1x1024 .f32) (S : Vec F S3x1024x128 .f32) :
    outK x0 x1 x3 S = ropes (k0_pay6 (View.ld x0 rc) (View.ld x1 rm)) x3 S := by
  unfold outK ropes k0_pay8 k0_pay19 k0_pay21 k0_pay24 k0_pay26 k0_pay27 k0_pay25 k0_pay23 k0_pay22 k0_pay20; rfl

theorem outV_eq (x0 : Vec F S1024x5120 .i8) (x1 : Vec F S5120x1024 .i8) (x3 : Vec F S1x1024 .f32) (S : Vec F S3x1024x128 .f32) :
    outV x0 x1 x3 S = vals (k0_pay6 (View.ld x0 rc) (View.ld x1 rm)) x3 S := by
  unfold outV vals k0_pay9 k0_pay28 k0_pay32 k0_pay33 k0_pay34 k0_pay35 k0_pay29 k0_pay30 k0_pay31; rfl

end Ops

theorem head_apply (o : Nat) (h : S1024x1024.Slices ![0, o] S1024x128) (ho : o + 128 ≤ 1024) (A : FVec Ideal S1024x1024 .f32) (w : Vec Ideal S1x128 .f32)
    (r : Fin 1024) (c : Fin 128) : head o h A w (ix2 r c) = A (ix2 r ⟨o + c.val, by omega⟩) * w (ix2 0 c) := by
  pointwise [head]

theorem sca_apply (t : FVec Ideal S1024x128 .f32) (T : Vec Ideal S1x1024x128 .f32) (r : Fin 1024) (c : Fin 128) :
    sca t T (ix2 r c) = t (ix2 r c) * T (ix3 0 r c) := by
  pointwise [sca]

theorem roll_apply (t : FVec Ideal S1024x128 .f32) (r : Fin 1024) (c : Fin 128) :
    dynamicRotate 1 64#32 none t rotates_S1024x128_d1 (ix2 r c) = t (ix2 r ⟨(c.val + 64) % 128, by omega⟩) := by
  pointwise
  exact congrArg (fun q => t (ix2 r q)) (Fin.ext (by show (c.val + 128 - 64) % 128 = (c.val + 64) % 128; omega))

theorem rot_apply (t : FVec Ideal S1024x128 .f32) (T0 T1 : Vec Ideal S1x1024x128 .f32) (r : Fin 1024) (c : Fin 128) :
    rot t T0 T1 (ix2 r c) = t (ix2 r c) * T0 (ix3 0 r c) + t (ix2 r ⟨(c.val + 64) % 128, by omega⟩) * T1 (ix3 0 r c) := by
  refine Eq.trans (b := sca t T0 (ix2 r c) + sca (dynamicRotate 1 64#32 none t rotates_S1024x128_d1) T1 (ix2 r c)) rfl ?_
  rw [sca_apply, sca_apply, roll_apply]

theorem pair_apply (lo hi : FVec Ideal S1024x128 .f32) (r : Fin 1024) (b : Fin 2) (c : Fin 128) :
    pair lo hi (ix3 r b c) = if b.val = 0 then lo (ix2 r c) else hi (ix2 r c) := by
  fin_cases b
  · pointwise [pair]
  · pointwise [pair]

theorem ldw (o : Nat) (h) (ho : o + 128 ≤ 1024) (x3 : Vec Ideal S1x1024 .f32) (c : Fin 128) :
    View.ld x3 (rw o h) (ix2 0 c) = x3 (ix2 0 ⟨o + c.val, by omega⟩) := by
  pointwise

theorem ldt (o : Nat) (h) (ho : o < 3) (S : Vec Ideal S3x1024x128 .f32) (r : Fin 1024) (c : Fin 128) :
    View.ld S (rt o h) (ix3 0 r c) = S (ix3 ⟨o, ho⟩ r c) := by
  pointwise

theorem embo (o : Nat) (h) (ho : o + 2 ≤ 8) (r : Fin 1024) (b : Fin 2) (c : Fin 128) :
    (ro o h).emb (ix3 r b c) = ix3 r ⟨o + b.val, by omega⟩ c := by
  funext a
  apply Fin.ext
  match a with
  | ⟨0, _⟩ => show 0 + 1 * r.val = r.val; omega
  | ⟨1, _⟩ => show o + 1 * b.val = o + b.val; omega
  | ⟨2, _⟩ => show 0 + 1 * c.val = c.val; omega

/-- Column `c` of head `q` of row `r`, its weight's scale multiplied in. -/
def tq (A : FVec Ideal S1024x1024 .f32) (x3 : Vec Ideal S1x1024 .f32) (r : Fin 1024) (q : Fin 8) (c : Fin 128) : EReal :=
  A (ix2 r ⟨128 * q.val + c.val, by omega⟩) * x3 (ix2 0 ⟨128 * q.val + c.val, by omega⟩)

theorem head_tq (q : Fin 8) (o : Nat) (e : o = 128 * q.val) (h : S1024x1024.Slices ![0, o] S1024x128) (hw) (A : FVec Ideal S1024x1024 .f32)
    (x3 : Vec Ideal S1x1024 .f32) (r : Fin 1024) (c : Fin 128) : head o h A (View.ld x3 (rw o hw)) (ix2 r c) = tq A x3 r q c := by
  subst e
  rw [head_apply _ _ (by omega), ldw _ _ (by omega)]
  rfl

/-- A rotated head at an element. -/
def ropeAt (A : FVec Ideal S1024x1024 .f32) (x3 : Vec Ideal S1x1024 .f32) (S : Vec Ideal S3x1024x128 .f32) (r : Fin 1024) (q : Fin 8) (c : Fin 128) : EReal :=
  tq A x3 r q c * S (ix3 0 r c) + tq A x3 r q ⟨(c.val + 64) % 128, by omega⟩ * S (ix3 1 r c)

/-- A value head at an element. -/
def valAt (A : FVec Ideal S1024x1024 .f32) (x3 : Vec Ideal S1x1024 .f32) (S : Vec Ideal S3x1024x128 .f32) (r : Fin 1024) (q : Fin 8) (c : Fin 128) : EReal :=
  tq A x3 r q c * S (ix3 2 r c)

theorem rope_head (q : Fin 8) (o : Nat) (e : o = 128 * q.val) (h : S1024x1024.Slices ![0, o] S1024x128) (hw) (A : FVec Ideal S1024x1024 .f32)
    (x3 : Vec Ideal S1x1024 .f32) (S : Vec Ideal S3x1024x128 .f32) (r : Fin 1024) (c : Fin 128) :
    rot (head o h A (View.ld x3 (rw o hw))) (View.ld S rt0) (View.ld S rt1) (ix2 r c) = ropeAt A x3 S r q c := by
  rw [rot_apply, head_tq q o e, head_tq q o e, ldt 0 _ (by decide), ldt 1 _ (by decide)]
  rfl

theorem val_head (q : Fin 8) (o : Nat) (e : o = 128 * q.val) (h : S1024x1024.Slices ![0, o] S1024x128) (hw) (A : FVec Ideal S1024x1024 .f32)
    (x3 : Vec Ideal S1x1024 .f32) (S : Vec Ideal S3x1024x128 .f32) (r : Fin 1024) (c : Fin 128) :
    sca (head o h A (View.ld x3 (rw o hw))) (View.ld S rt2) (ix2 r c) = valAt A x3 S r q c := by
  rw [sca_apply, head_tq q o e, ldt 2 _ (by decide)]
  rfl

/-- A pair of heads is the two rows it is stored at of any function its halves are read from. -/
theorem pair_piece (G : Fin 1024 → Fin 8 → Fin 128 → EReal) (p : Nat) (hp : p + 2 ≤ 8) (hr) (lo hi : FVec Ideal S1024x128 .f32)
    (hlo : ∀ r c, lo (ix2 r c) = G r ⟨p, by omega⟩ c) (hhi : ∀ r c, hi (ix2 r c) = G r ⟨p + 1, by omega⟩ c) (x : S1024x2x128.Idx) :
    pair lo hi x = (fun i : S1024x8x128.Idx => G (i 0) (i 1) (i 2)) ((ro p hr).emb x) := by
  obtain ⟨r, b, c, rfl⟩ : ∃ (r : Fin 1024) (b : Fin 2) (c : Fin 128), x = ix3 r b c := ⟨x 0, x 1, x 2, by funext a; fin_cases a <;> rfl⟩
  rw [embo p hr hp, pair_apply]
  by_cases hb : b.val = 0
  · rw [if_pos hb, hlo]
    exact congrArg (fun q => G r q c) (Fin.ext (by show p = p + b.val; omega))
  · rw [if_neg hb, hhi]
    exact congrArg (fun q => G r q c) (Fin.ext (by show p + 1 = p + b.val; have := b.isLt; omega))

theorem ropes_apply (A : FVec Ideal S1024x1024 .f32) (x3 : Vec Ideal S1x1024 .f32) (S : Vec Ideal S3x1024x128 .f32) (r : Fin 1024) (q : Fin 8) (c : Fin 128) :
    ropes A x3 S (ix3 r q c) = ropeAt A x3 S r q c := by
  refine View.canon_apply_of_pieces (Val := Elt Ideal) (e := .bf16) (fun i : S1024x8x128.Idx => ropeAt A x3 S (i 0) (i 1) (i 2)) _ ?_ (ix3 r q c) (coverO _ _ _ _ _)
  intro p hp
  rcases List.mem_cons.1 hp with rfl | hp
  · exact pair_piece _ 6 (by decide) inb_S1024x8x128_S1024x2x128_0_6_0 _ _ (rope_head 6 768 rfl _ _ A x3 S) (rope_head 7 896 rfl _ _ A x3 S)
  rcases List.mem_cons.1 hp with rfl | hp
  · exact pair_piece _ 4 (by decide) inb_S1024x8x128_S1024x2x128_0_4_0 _ _ (rope_head 4 512 rfl _ _ A x3 S) (rope_head 5 640 rfl _ _ A x3 S)
  rcases List.mem_cons.1 hp with rfl | hp
  · exact pair_piece _ 2 (by decide) inb_S1024x8x128_S1024x2x128_0_2_0 _ _ (rope_head 2 256 rfl _ _ A x3 S) (rope_head 3 384 rfl _ _ A x3 S)
  rcases List.mem_cons.1 hp with rfl | hp
  · exact pair_piece _ 0 (by decide) inb_S1024x8x128_S1024x2x128_0_0_0 _ _ (rope_head 0 0 rfl _ _ A x3 S) (rope_head 1 128 rfl _ _ A x3 S)
  · exact absurd hp List.not_mem_nil

theorem vals_apply (A : FVec Ideal S1024x1024 .f32) (x3 : Vec Ideal S1x1024 .f32) (S : Vec Ideal S3x1024x128 .f32) (r : Fin 1024) (q : Fin 8) (c : Fin 128) :
    vals A x3 S (ix3 r q c) = valAt A x3 S r q c := by
  refine View.canon_apply_of_pieces (Val := Elt Ideal) (e := .bf16) (fun i : S1024x8x128.Idx => valAt A x3 S (i 0) (i 1) (i 2)) _ ?_ (ix3 r q c) (coverO _ _ _ _ _)
  intro p hp
  rcases List.mem_cons.1 hp with rfl | hp
  · exact pair_piece _ 6 (by decide) inb_S1024x8x128_S1024x2x128_0_6_0 _ _ (val_head 6 768 rfl _ _ A x3 S) (val_head 7 896 rfl _ _ A x3 S)
  rcases List.mem_cons.1 hp with rfl | hp
  · exact pair_piece _ 4 (by decide) inb_S1024x8x128_S1024x2x128_0_4_0 _ _ (val_head 4 512 rfl _ _ A x3 S) (val_head 5 640 rfl _ _ A x3 S)
  rcases List.mem_cons.1 hp with rfl | hp
  · exact pair_piece _ 2 (by decide) inb_S1024x8x128_S1024x2x128_0_2_0 _ _ (val_head 2 256 rfl _ _ A x3 S) (val_head 3 384 rfl _ _ A x3 S)
  rcases List.mem_cons.1 hp with rfl | hp
  · exact pair_piece _ 0 (by decide) inb_S1024x8x128_S1024x2x128_0_0_0 _ _ (val_head 0 0 rfl _ _ A x3 S) (val_head 1 128 rfl _ _ A x3 S)
  · exact absurd hp List.not_mem_nil

end Cert.ProjIdeal.Heads

end
-- ==== Proof.Mine.PSpec.lean ====
/- The mathematics of the projecting call at one token and one column, over the extended reals: the product of the token's
   codes with the column's weights, scaled; and the rotation of a head's two halves. -/
module

public import Idealize.ShloMosaic.Lib.Pointwise
public import Idealize.ShloMosaic.PureOps.Ideal

@[expose] public section

noncomputable section

namespace Cert.PSpec

open Idealize.ShloMosaic

/-- The product of a row of codes with a column of weights. -/
def acc (x w : Fin 5120 → BitVec 8) : EReal :=
  ∑ k, FloatOps.sitofp (F := Ideal) .bf16 (x k) * FloatOps.sitofp (F := Ideal) .bf16 (w k)

/-- The angle of a position at one frequency. -/
def ang (p : BitVec 32) (f : EReal) : EReal := FloatOps.sitofp (F := Ideal) .f32 p * f

/-- A head `y` of 128 columns rotated by the angles `a`: column `c` of the first half is paired with column `c + 64`. -/
def rope (y : Fin 128 → EReal) (a : Fin 64 → EReal) (c : Fin 128) : EReal :=
  if h : c.val < 64 then
    y c * Ideal.cos (a ⟨c.val, h⟩) - y ⟨c.val + 64, by omega⟩ * Ideal.sin (a ⟨c.val, h⟩)
  else
    y c * Ideal.cos (a ⟨c.val - 64, by omega⟩) + y ⟨c.val - 64, by omega⟩ * Ideal.sin (a ⟨c.val - 64, by omega⟩)

theorem scaled (a x w : EReal) : a * w * x = a * x * w := by
  rw [mul_assoc, mul_comm w x, ← mul_assoc]

theorem scaled_cos (a x w C : EReal) : a * w * (C * x) = a * x * w * C := by
  rw [mul_comm C x, ← mul_assoc, scaled a x w]

/-- Scaling the tables instead of the head gives the same first half. -/
theorem lo_eq (a w a' w' x C S : EReal) :
    a * w * (C * x) + a' * w' * (0 - S * x) = a * x * w * C - a' * x * w' * S := by
  rw [zero_sub, mul_neg, scaled_cos, scaled_cos, sub_eq_add_neg]

/-- Scaling the tables instead of the head gives the same second half. -/
theorem hi_eq (a w a' w' x C S : EReal) :
    a * w * (C * x) + a' * w' * (S * x) = a * x * w * C + a' * x * w' * S := by
  rw [scaled_cos, scaled_cos]

end Cert.PSpec

end
-- ==== Proof.Mine.ProjIdeal.Tables.lean ====
/- The tables of the projecting kernel's scratch and its products, read at an element. -/
module

public import proofs.«01_k».proof.Proof.Mine.ProjIdeal.Out
public import proofs.«01_k».proof.Proof.Mine.PSpec
public import Idealize.ShloMosaic.Lib.Pipeline.Value

@[expose] public section

set_option maxRecDepth 16384

noncomputable section

namespace Cert.ProjIdeal.Tables

open Idealize.ShloMosaic Cert.ProjIdeal.Gen Cert.ProjIdeal Cert.ProjIdeal.Hand Cert.PSpec

variable (f : Vec Ideal S64x1 .f32) (p : Vec Ideal S1x1x1024 .i32) (s : Vec Ideal S1x1x1024 .f32)

theorem pay1_apply (k : Fin 64) (r : Fin 1024) : k0_pay1 f p (ix2 k r) = ang (p (ix3 0 0 r)) (f (ix2 k 0)) := by
  unfold ang
  pointwise [k0_pay1]
  exact mul_comm _ _

theorem pay2_apply (r : Fin 1024) : k0_pay2 s (ix2 0 r) = s (ix3 0 0 r) := by
  pointwise [k0_pay2]

theorem pay5_apply (r : Fin 1024) (c : Fin 128) : k0_pay5 s (ix3 0 r c) = s (ix3 0 0 r) := by
  pointwise [k0_pay5, k0_pay2]

theorem pay3_lo (r : Fin 1024) (c : Fin 128) (h : c.val < 64) : k0_pay3 f p s (ix3 0 r c)
    = Ideal.cos (ang (p (ix3 0 0 r)) (f (ix2 ⟨c.val, h⟩ 0))) * s (ix3 0 0 r) := by
  pointwise [k0_pay3, pay1_apply, pay2_apply]
  rw [dif_pos h]

theorem pay3_hi (r : Fin 1024) (c : Fin 128) (h : ¬ c.val < 64) : k0_pay3 f p s (ix3 0 r c)
    = Ideal.cos (ang (p (ix3 0 0 r)) (f (ix2 ⟨c.val - 64, by omega⟩ 0))) * s (ix3 0 0 r) := by
  pointwise [k0_pay3, pay1_apply, pay2_apply]
  rw [dif_neg h]

theorem pay4_lo (r : Fin 1024) (c : Fin 128) (h : c.val < 64) : k0_pay4 f p s (ix3 0 r c)
    = 0 - Ideal.sin (ang (p (ix3 0 0 r)) (f (ix2 ⟨c.val, h⟩ 0))) * s (ix3 0 0 r) := by
  pointwise [k0_pay4, pay1_apply, pay2_apply]
  rw [dif_pos h]

theorem pay4_hi (r : Fin 1024) (c : Fin 128) (h : ¬ c.val < 64) : k0_pay4 f p s (ix3 0 r c)
    = Ideal.sin (ang (p (ix3 0 0 r)) (f (ix2 ⟨c.val - 64, by omega⟩ 0))) * s (ix3 0 0 r) := by
  pointwise [k0_pay4, pay1_apply, pay2_apply]
  rw [dif_neg h]

theorem acc_apply (x0 : Vec Ideal S1024x5120 .i8) (x1 : Vec Ideal S5120x1024 .i8) (r e : Fin 1024) :
    k0_pay6 x0 x1 (ix2 r e) = acc (fun k => x0 (ix2 r k)) (fun k => x1 (ix2 k e)) := by
  unfold acc
  pointwise [k0_pay6]

/-- Table `i 0` of three at an index. -/
def tabAt (p0 p1 p2 : Vec Ideal S1x1024x128 .f32) (i : S3x1024x128.Idx) : EReal :=
  if (i 0).val = 0 then p0 (ix3 0 (i 1) (i 2)) else if (i 0).val = 1 then p1 (ix3 0 (i 1) (i 2)) else p2 (ix3 0 (i 1) (i 2))

/-- The three tables as one function of the table's number. -/
theorem scr_pieces (p0 p1 p2 : Vec Ideal S1x1024x128 .f32) (o : Fin 3) (r : Fin 1024) (c : Fin 128) :
    View.canon (Val := Elt Ideal) (e := .f32) [⟨rt2, p2⟩, ⟨rt1, p1⟩, ⟨rt0, p0⟩] (ix3 o r c)
      = tabAt p0 p1 p2 (ix3 o r c) := by
  refine View.canon_apply_of_pieces (Val := Elt Ideal) (e := .f32) (tabAt p0 p1 p2) _ ?_ (ix3 o r c) (coverS _ _ _ _)
  have key : ∀ (o : Nat) (h) (ho : o < 3) (x : S1x1024x128.Idx), ∃ (r : Fin 1024) (c : Fin 128), x = ix3 0 r c ∧ (rt o h).emb x = ix3 ⟨o, ho⟩ r c := by
    intro o h ho x
    have hx : x = ix3 0 (x 1) (x 2) := by
      funext a
      match a with
      | ⟨0, _⟩ => exact Subsingleton.elim (α := Fin 1) _ _
      | ⟨1, _⟩ => rfl
      | ⟨2, _⟩ => rfl
    refine ⟨x 1, x 2, hx, ?_⟩
    rw [hx]
    funext a
    apply Fin.ext
    match a with
    | ⟨0, _⟩ => show o + 1 * 0 = o; omega
    | ⟨1, _⟩ => show 0 + 1 * (x 1).val = (x 1).val; omega
    | ⟨2, _⟩ => show 0 + 1 * (x 2).val = (x 2).val; omega
  intro pc hp
  rcases List.mem_cons.1 hp with rfl | hp
  · intro x
    obtain ⟨r, c, e, e'⟩ := key 2 inb_S3x1024x128_S1x1024x128_2_0_0 (by decide) x
    exact (congrArg p2 e).trans (Eq.trans (b := tabAt p0 p1 p2 (ix3 ⟨2, by decide⟩ r c)) rfl (congrArg (tabAt p0 p1 p2) e').symm)
  rcases List.mem_cons.1 hp with rfl | hp
  · intro x
    obtain ⟨r, c, e, e'⟩ := key 1 inb_S3x1024x128_S1x1024x128_1_0_0 (by decide) x
    exact (congrArg p1 e).trans (Eq.trans (b := tabAt p0 p1 p2 (ix3 ⟨1, by decide⟩ r c)) rfl (congrArg (tabAt p0 p1 p2) e').symm)
  rcases List.mem_cons.1 hp with rfl | hp
  · intro x
    obtain ⟨r, c, e, e'⟩ := key 0 inb_S3x1024x128_S1x1024x128_0_0_0 (by decide) x
    exact (congrArg p0 e).trans (Eq.trans (b := tabAt p0 p1 p2 (ix3 ⟨0, by decide⟩ r c)) rfl (congrArg (tabAt p0 p1 p2) e').symm)
  · exact absurd hp List.not_mem_nil

theorem hz2 : (![0, 0] : Fin 2 → Nat) = fun _ => 0 := funext fun a => by fin_cases a <;> rfl
theorem hz3 : (![0, 0, 0] : Fin 3 → Nat) = fun _ => 0 := funext fun a => by fin_cases a <;> rfl

theorem scr_eq : scr s p f = View.canon [⟨rt2, k0_pay5 s⟩, ⟨rt1, k0_pay4 f p s⟩, ⟨rt0, k0_pay3 f p s⟩] := by
  unfold scr
  rw [View.ld_unit_zero (S := S1x1x1024) hz3 _ s, View.ld_unit_zero (S := S1x1x1024) hz3 _ p, View.ld_unit_zero (S := S64x1) hz2 _ f]

theorem scr0 (r : Fin 1024) (c : Fin 128) : scr s p f (ix3 0 r c) = k0_pay3 f p s (ix3 0 r c) := by
  rw [scr_eq]
  exact scr_pieces _ _ _ 0 r c

theorem scr1 (r : Fin 1024) (c : Fin 128) : scr s p f (ix3 1 r c) = k0_pay4 f p s (ix3 0 r c) := by
  rw [scr_eq]
  exact scr_pieces _ _ _ 1 r c

theorem scr2 (r : Fin 1024) (c : Fin 128) : scr s p f (ix3 2 r c) = s (ix3 0 0 r) := by
  rw [scr_eq]
  exact (scr_pieces _ _ _ 2 r c).trans (pay5_apply s r c)

end Cert.ProjIdeal.Tables

end
-- ==== Proof.Mine.ProjIdeal.Block.lean ====
/- One output block of the projecting kernel, read at an element, in the words of the specification. -/
module

public import proofs.«01_k».proof.Proof.Mine.ProjIdeal.Heads
public import proofs.«01_k».proof.Proof.Mine.ProjIdeal.Tables

@[expose] public section

noncomputable section

namespace Cert.ProjIdeal.Block

open Idealize.ShloMosaic Cert.ProjIdeal.Gen Cert.ProjIdeal Cert.ProjIdeal.Hand Cert.ProjIdeal.Heads Cert.ProjIdeal.Tables Cert.PSpec

variable (x0 : Vec Ideal S1024x5120 .i8) (x1 : Vec Ideal S5120x1024 .i8) (x2 : Vec Ideal S1x1x1024 .f32) (x3 : Vec Ideal S1x1024 .f32)
  (x4 : Vec Ideal S1x1x1024 .i32) (x5 : Vec Ideal S64x1 .f32) (r : Fin 1024) (q : Fin 8) (c : Fin 128)

/-- Column `c` of head `q` of token `r` of a block: product, token's scale, weight's scale. -/
def col : EReal :=
  acc (fun k => x0 (ix2 r k)) (fun k => x1 (ix2 k ⟨128 * q.val + c.val, by omega⟩)) * x2 (ix3 0 0 r) * x3 (ix2 0 ⟨128 * q.val + c.val, by omega⟩)

theorem tq_acc : tq (k0_pay6 x0 x1) x3 r q c
    = acc (fun k => x0 (ix2 r k)) (fun k => x1 (ix2 k ⟨128 * q.val + c.val, by omega⟩)) * x3 (ix2 0 ⟨128 * q.val + c.val, by omega⟩) := by
  unfold tq
  rw [acc_apply]

theorem rope_block : ropes (k0_pay6 x0 x1) x3 (scr x2 x4 x5) (ix3 r q c)
    = rope (col x0 x1 x2 x3 r q) (fun k => ang (x4 (ix3 0 0 r)) (x5 (ix2 k 0))) c := by
  rw [ropes_apply]
  unfold ropeAt rope
  rw [scr0, scr1, tq_acc, tq_acc]
  by_cases h : c.val < 64
  · have e : (⟨(c.val + 64) % 128, by omega⟩ : Fin 128) = ⟨c.val + 64, by omega⟩ := Fin.ext (by show (c.val + 64) % 128 = c.val + 64; omega)
    rw [dif_pos h, pay3_lo _ _ _ _ _ h, pay4_lo _ _ _ _ _ h, e]
    exact lo_eq _ _ _ _ _ _ _
  · have e : (⟨(c.val + 64) % 128, by omega⟩ : Fin 128) = ⟨c.val - 64, by omega⟩ := Fin.ext (by show (c.val + 64) % 128 = c.val - 64; omega)
    rw [dif_neg h, pay3_hi _ _ _ _ _ h, pay4_hi _ _ _ _ _ h, e]
    exact hi_eq _ _ _ _ _ _ _

theorem val_block : vals (k0_pay6 x0 x1) x3 (scr x2 x4 x5) (ix3 r q c) = col x0 x1 x2 x3 r q c := by
  rw [vals_apply]
  unfold valAt
  rw [scr2, tq_acc]
  exact scaled _ _ _

theorem outQ_block : outQ x0 x1 x3 (scr x2 x4 x5) (ix3 r q c)
    = rope (col x0 x1 x2 x3 r q) (fun k => ang (x4 (ix3 0 0 r)) (x5 (ix2 k 0))) c := by
  rw [outQ_eq, View.ld_unit_zero (S := S1024x5120) hz2 _ x0, View.ld_unit_zero (S := S5120x1024) hz2 _ x1]
  exact rope_block x0 x1 x2 x3 x4 x5 r q c

theorem outK_block : outK x0 x1 x3 (scr x2 x4 x5) (ix3 r q c)
    = rope (col x0 x1 x2 x3 r q) (fun k => ang (x4 (ix3 0 0 r)) (x5 (ix2 k 0))) c := by
  rw [outK_eq, View.ld_unit_zero (S := S1024x5120) hz2 _ x0, View.ld_unit_zero (S := S5120x1024) hz2 _ x1]
  exact rope_block x0 x1 x2 x3 x4 x5 r q c

theorem outV_block : outV x0 x1 x3 (scr x2 x4 x5) (ix3 r q c) = col x0 x1 x2 x3 r q c := by
  rw [outV_eq, View.ld_unit_zero (S := S1024x5120) hz2 _ x0, View.ld_unit_zero (S := S5120x1024) hz2 _ x1]
  exact val_block x0 x1 x2 x3 x4 x5 r q c

end Cert.ProjIdeal.Block

end
-- ==== Proof.Mine.ProjRefIdeal.Run.lean ====
/- The plain reference of the projecting call: its three arrays after the run, as functions of the arguments. -/
module

public import proofs.«01_k».proof.Proof.Gen.ProjRefIdeal.Frame
public import Idealize.ShloMosaic.Lib.Pipeline.Value

@[expose] public section

noncomputable section

namespace Cert.ProjRefIdeal.Whole

open Cert.ProjRefIdeal Cert.ProjRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S16384x5120.Idx) : ((cfg0.win 0).blk t).view.emb j = j := by
  obtain ⟨e0, e1⟩ := idx_zero0 t
  funext a; apply Fin.ext
  match a with
  | ⟨0, _⟩ => show win0_0.index t (0 : Fin 2) * 16384 + 1 * (j 0).val = (j 0).val; omega
  | ⟨1, _⟩ => show win0_0.index t (1 : Fin 2) * 5120 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S64x1x256.Idx) : ((cfg0.win 1).blk t).view.emb j = j := by
  obtain ⟨e0, e1, e2⟩ := idx_zero1 t
  funext a; apply Fin.ext
  match a with
  | ⟨0, _⟩ => show win0_1.index t (0 : Fin 3) * 64 + 1 * (j 0).val = (j 0).val; omega
  | ⟨1, _⟩ => show win0_1.index t (1 : Fin 3) * 1 + 1 * (j 1).val = (j 1).val; omega
  | ⟨2, _⟩ => show win0_1.index t (2 : Fin 3) * 256 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S5120x7168.Idx) : ((cfg0.win 2).blk t).view.emb j = j := by
  obtain ⟨e0, e1⟩ := idx_zero2 t
  funext a; apply Fin.ext
  match a with
  | ⟨0, _⟩ => show win0_2.index t (0 : Fin 2) * 5120 + 1 * (j 0).val = (j 0).val; omega
  | ⟨1, _⟩ => show win0_2.index t (1 : Fin 2) * 7168 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S7168.Idx) : ((cfg0.win 3).blk t).view.emb j = j := by
  have e0 := idx_zero3 t
  funext a; apply Fin.ext
  match a with
  | ⟨0, _⟩ => show win0_3.index t (0 : Fin 1) * 7168 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S4x4096.Idx) : ((cfg0.win 4).blk t).view.emb j = j := by
  obtain ⟨e0, e1⟩ := idx_zero4 t
  funext a; apply Fin.ext
  match a with
  | ⟨0, _⟩ => show win0_4.index t (0 : Fin 2) * 4 + 1 * (j 0).val = (j 0).val; omega
  | ⟨1, _⟩ => show win0_4.index t (1 : Fin 2) * 4096 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S64.Idx) : ((cfg0.win 5).blk t).view.emb j = j := by
  have e0 := idx_zero5 t
  funext a; apply Fin.ext
  match a with
  | ⟨0, _⟩ => show win0_5.index t (0 : Fin 1) * 64 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S16384x40x128.Idx) : ((cfg0.win 6).blk t).view.emb j = j := by
  obtain ⟨e0, e1, e2⟩ := idx_zero6 t
  funext a; apply Fin.ext
  match a with
  | ⟨0, _⟩ => show win0_6.index t (0 : Fin 3) * 16384 + 1 * (j 0).val = (j 0).val; omega
  | ⟨1, _⟩ => show win0_6.index t (1 : Fin 3) * 40 + 1 * (j 1).val = (j 1).val; omega
  | ⟨2, _⟩ => show win0_6.index t (2 : Fin 3) * 128 + 1 * (j 2).val = (j 2).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S16384x8x128.Idx) : ((cfg0.win 7).blk t).view.emb j = j := by
  obtain ⟨e0, e1, e2⟩ := idx_zero7 t
  funext a; apply Fin.ext
  match a with
  | ⟨0, _⟩ => show win0_7.index t (0 : Fin 3) * 16384 + 1 * (j 0).val = (j 0).val; omega
  | ⟨1, _⟩ => show win0_7.index t (1 : Fin 3) * 8 + 1 * (j 1).val = (j 1).val; omega
  | ⟨2, _⟩ => show win0_7.index t (2 : Fin 3) * 128 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S16384x8x128.Idx) : ((cfg0.win 8).blk t).view.emb j = j := by
  obtain ⟨e0, e1, e2⟩ := idx_zero8 t
  funext a; apply Fin.ext
  match a with
  | ⟨0, _⟩ => show win0_8.index t (0 : Fin 3) * 16384 + 1 * (j 0).val = (j 0).val; omega
  | ⟨1, _⟩ => show win0_8.index t (1 : Fin 3) * 8 + 1 * (j 1).val = (j 1).val; omega
  | ⟨2, _⟩ => show win0_8.index t (2 : Fin 3) * 128 + 1 * (j 2).val = (j 2).val; omega

/-! ### Output window 6: the array after the run -/

/-- What the window's array ends holding: the body's stored value at the argument arrays. -/
def G6 (a0 : Vec F S16384x5120 .i8) (a1 : Vec F S64x1x256 .f32) (a2 : Vec F S5120x7168 .i8) (a3 : Vec F S7168 .f32) (a4 : Vec F S4x4096 .i32) (a5 : Vec F S64 .f32) : Vec F S16384x40x128 .bf16 :=
  k0_pay9 a0 a2 a1 a3 a4 a5

/-- A load of the whole of a block reads the block, and the one store through the whole rectangle leaves its payload. -/
theorem out6_eq (a0 : Vec F S16384x5120 .i8) (a1 : Vec F S64x1x256 .f32) (a2 : Vec F S5120x7168 .i8) (a3 : Vec F S7168 .f32) (a4 : Vec F S4x4096 .i32) (a5 : Vec F S64 .f32) : out0_6 (F := F) a0 a1 a2 a3 a4 a5 = G6 a0 a1 a2 a3 a4 a5 := by
  unfold out0_6 G6
  rw [View.canon_unit_zero hz6, View.ld_unit_zero (S := S16384x5120) hz0 _ a0, View.ld_unit_zero (S := S5120x7168) hz2 _ a2, View.ld_unit_zero (S := S64x1x256) hz1 _ a1, View.ld_unit_zero (S := S7168) hz3 _ a3, View.ld_unit_zero (S := S4x4096) hz4 _ a4, View.ld_unit_zero (S := S64) hz5 _ a5]

/-- Cutting the point's block out of `X` and reading `X` through the block's view give the same. -/
theorem cut6_eq (t : Fin cfg0.N) (X : Vec F S16384x40x128 .bf16) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S16384x40x128.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: the body's stored value at the argument arrays. -/
def G7 (a0 : Vec F S16384x5120 .i8) (a1 : Vec F S64x1x256 .f32) (a2 : Vec F S5120x7168 .i8) (a3 : Vec F S7168 .f32) (a4 : Vec F S4x4096 .i32) (a5 : Vec F S64 .f32) : Vec F S16384x8x128 .bf16 :=
  k0_pay1 (k0_pay4 a0 a2 a1 a3) (k0_pay7 a4 a5) (k0_pay8 a4 a5)

/-- A load of the whole of a block reads the block, and the one store through the whole rectangle leaves its payload. -/
theorem out7_eq (a0 : Vec F S16384x5120 .i8) (a1 : Vec F S64x1x256 .f32) (a2 : Vec F S5120x7168 .i8) (a3 : Vec F S7168 .f32) (a4 : Vec F S4x4096 .i32) (a5 : Vec F S64 .f32) : out0_7 (F := F) a0 a1 a2 a3 a4 a5 = G7 a0 a1 a2 a3 a4 a5 := by
  unfold out0_7 G7
  rw [View.canon_unit_zero hz7, View.ld_unit_zero (S := S16384x5120) hz0 _ a0, View.ld_unit_zero (S := S5120x7168) hz2 _ a2, View.ld_unit_zero (S := S64x1x256) hz1 _ a1, View.ld_unit_zero (S := S7168) hz3 _ a3, View.ld_unit_zero (S := S4x4096) hz4 _ a4, View.ld_unit_zero (S := S64) hz5 _ a5]

/-- Cutting the point's block out of `X` and reading `X` through the block's view give the same. -/
theorem cut7_eq (t : Fin cfg0.N) (X : Vec F S16384x8x128 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S16384x8x128.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: the body's stored value at the argument arrays. -/
def G8 (a0 : Vec F S16384x5120 .i8) (a1 : Vec F S64x1x256 .f32) (a2 : Vec F S5120x7168 .i8) (a3 : Vec F S7168 .f32) (a4 : Vec F S4x4096 .i32) (a5 : Vec F S64 .f32) : Vec F S16384x8x128 .bf16 :=
  k0_pay2 (k0_pay5 a0 a2 a1 a3)

/-- A load of the whole of a block reads the block, and the one store through the whole rectangle leaves its payload. -/
theorem out8_eq (a0 : Vec F S16384x5120 .i8) (a1 : Vec F S64x1x256 .f32) (a2 : Vec F S5120x7168 .i8) (a3 : Vec F S7168 .f32) (a4 : Vec F S4x4096 .i32) (a5 : Vec F S64 .f32) : out0_8 (F := F) a0 a1 a2 a3 a4 a5 = G8 a0 a1 a2 a3 a4 a5 := by
  unfold out0_8 G8
  rw [View.canon_unit_zero hz8, View.ld_unit_zero (S := S16384x5120) hz0 _ a0, View.ld_unit_zero (S := S5120x7168) hz2 _ a2, View.ld_unit_zero (S := S64x1x256) hz1 _ a1, View.ld_unit_zero (S := S7168) hz3 _ a3]

/-- Cutting the point's block out of `X` and reading `X` through the block's view give the same. -/
theorem cut8_eq (t : Fin cfg0.N) (X : Vec F S16384x8x128 .bf16) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S16384x8x128.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      kept_main_arg0 m r h c,
      kept_main_arg1 m r h c,
      kept_main_arg2 m r h c,
      kept_main_arg3 m r h c,
      kept_main_arg4 m r h c,
      kept_main_arg5 m r h c⟩)
    (run_main m ρ)

end Cert.ProjRefIdeal.Whole

end
-- ==== Proof.Mine.ProjRefIdeal.Pay.lean ====
/- What the plain reference of the projecting call computes, read at an element. -/
module

public import proofs.«01_k».proof.Proof.Gen.ProjRefIdeal.Skeleton
public import proofs.«01_k».proof.Proof.Mine.PSpec

@[expose] public section

noncomputable section

namespace Cert.ProjRefIdeal.Pay

open Idealize.ShloMosaic Cert.ProjRefIdeal.Gen Cert.ProjRefIdeal Cert.PSpec

variable (x : Vec Ideal S16384x5120 .i8) (w : Vec Ideal S5120x7168 .i8) (s : Vec Ideal S64x1x256 .f32) (g : Vec Ideal S7168 .f32)
  (p : Vec Ideal S4x4096 .i32) (f : Vec Ideal S64 .f32)

/-- The projection of token `n` at column `e`. -/
def proj (n : Fin 16384) (e : Fin 7168) : EReal :=
  acc (fun k => x (ix2 n k)) (fun k => w (ix2 k e)) * s (ix3 ⟨n.val / 256, by omega⟩ 0 ⟨n.val % 256, by omega⟩) * g (ix1 e)

/-- The angles of token `n`. -/
def angs (n : Fin 16384) (k : Fin 64) : EReal := ang (p (ix2 ⟨n.val / 4096, by omega⟩ ⟨n.val % 4096, by omega⟩)) (f (ix1 k))

theorem pay3_apply (n : Fin 16384) (e : Fin 7168) : k0_pay3 x w s g (ix2 n e) = proj x w s g n e := by
  unfold proj acc
  pointwise [k0_pay3]

theorem pay6_apply (n : Fin 16384) (k : Fin 64) : k0_pay6 p f (ix2 n k) = angs p f n k := by
  unfold angs ang
  pointwise [k0_pay6]

theorem cos_apply (n : Fin 16384) (k : Fin 64) : k0_pay7 p f (ix3 n 0 k) = Ideal.cos (angs p f n k) := by
  pointwise [k0_pay7, pay6_apply]

theorem sin_apply (n : Fin 16384) (k : Fin 64) : k0_pay8 p f (ix3 n 0 k) = Ideal.sin (angs p f n k) := by
  pointwise [k0_pay8, pay6_apply]

variable {x w s g p f} in
theorem proj_congr {n : Fin 16384} {e e' : Fin 7168} (h : e.val = e'.val) : proj x w s g n e = proj x w s g n e' :=
  congrArg (proj x w s g n) (Fin.ext h)

theorem khead_apply (n : Fin 16384) (q : Fin 8) (c : Fin 128) :
    k0_pay4 x w s g (ix3 n q c) = proj x w s g n ⟨5120 + (128 * q.val + c.val), by omega⟩ := by
  pointwise [k0_pay4, pay3_apply]
  exact proj_congr (by show 5120 + (q.val * 128 + c.val) = 5120 + (128 * q.val + c.val); omega)

theorem vhead_apply (n : Fin 16384) (q : Fin 8) (c : Fin 128) :
    k0_pay2 (k0_pay5 x w s g) (ix3 n q c) = proj x w s g n ⟨6144 + (128 * q.val + c.val), by omega⟩ := by
  pointwise [k0_pay2, k0_pay5, pay3_apply]
  exact proj_congr (by show 6144 + (q.val * 128 + c.val) = 6144 + (128 * q.val + c.val); omega)

theorem krope_apply (n : Fin 16384) (q : Fin 8) (c : Fin 128) :
    k0_pay1 (k0_pay4 x w s g) (k0_pay7 p f) (k0_pay8 p f) (ix3 n q c)
      = rope (fun c => proj x w s g n ⟨5120 + (128 * q.val + c.val), by omega⟩) (angs p f n) c := by
  unfold rope
  pointwise [k0_pay1, cos_apply, sin_apply, khead_apply]
  by_cases h : c.val < 64
  · rw [dif_pos h, dif_pos h]
    have e : proj x w s g n ⟨5120 + (128 * q.val + (64 + c.val)), by omega⟩ = proj x w s g n ⟨5120 + (128 * q.val + (c.val + 64)), by omega⟩ :=
      proj_congr (by show 5120 + (128 * q.val + (64 + c.val)) = 5120 + (128 * q.val + (c.val + 64)); omega)
    rw [e]
  · rw [dif_neg h, dif_neg h]
    have e : proj x w s g n ⟨5120 + (128 * q.val + (64 + (c.val - 64))), by omega⟩ = proj x w s g n ⟨5120 + (128 * q.val + c.val), by omega⟩ :=
      proj_congr (by show 5120 + (128 * q.val + (64 + (c.val - 64))) = 5120 + (128 * q.val + c.val); omega)
    rw [e]

theorem qrope_apply (n : Fin 16384) (q : Fin 40) (c : Fin 128) :
    k0_pay9 x w s g p f (ix3 n q c) = rope (fun c => proj x w s g n ⟨128 * q.val + c.val, by omega⟩) (angs p f n) c := by
  unfold rope
  pointwise [k0_pay9, cos_apply, sin_apply, pay3_apply]
  by_cases h : c.val < 64
  · rw [dif_pos h, dif_pos h]
    have e : proj x w s g n ⟨q.val * 128 + c.val, by omega⟩ = proj x w s g n ⟨128 * q.val + c.val, by omega⟩ :=
      proj_congr (by show q.val * 128 + c.val = 128 * q.val + c.val; omega)
    have e' : proj x w s g n ⟨q.val * 128 + (64 + c.val), by omega⟩ = proj x w s g n ⟨128 * q.val + (c.val + 64), by omega⟩ :=
      proj_congr (by show q.val * 128 + (64 + c.val) = 128 * q.val + (c.val + 64); omega)
    rw [e, e']
  · rw [dif_neg h, dif_neg h]
    have e : proj x w s g n ⟨q.val * 128 + (64 + (c.val - 64)), by omega⟩ = proj x w s g n ⟨128 * q.val + c.val, by omega⟩ :=
      proj_congr (by show q.val * 128 + (64 + (c.val - 64)) = 128 * q.val + c.val; omega)
    have e' : proj x w s g n ⟨q.val * 128 + (c.val - 64), by omega⟩ = proj x w s g n ⟨128 * q.val + (c.val - 64), by omega⟩ :=
      proj_congr (by show q.val * 128 + (c.val - 64) = 128 * q.val + (c.val - 64); omega)
    rw [e, e']

end Cert.ProjRefIdeal.Pay

end
-- ==== Proof.Mine.PVal.lean ====
/- The projecting call against its plain reference: equal queries, keys and values. -/
module

public import proofs.«01_k».proof.Defs
public import proofs.«01_k».proof.Proof.Mine.ProjIdeal.Frame
public import proofs.«01_k».proof.Proof.Mine.ProjIdeal.Block
public import proofs.«01_k».proof.Proof.Mine.ProjRefIdeal.Run
public import proofs.«01_k».proof.Proof.Mine.ProjRefIdeal.Pay
public import Idealize.ShloMosaic.Lib.Claim

@[expose] public section

set_option maxRecDepth 16384

noncomputable section

namespace Cert.ProjIdeal.Fin

open Cert.ProjIdeal Cert.ProjIdeal.Gen Cert.ProjIdeal.Hand Idealize.ShloMosaic Idealize.ShloMosaic.TcCoe Idealize.SL.Sem
open Idealize.ShloMosaic.Pipeline (Dat)
open Cert.ProjRefIdeal.Pay (proj angs)
open Cert.PSpec (rope ang acc)

variable (m : (ℓ : Loc nD τ sig) → Buf (Elt Ideal) ℓ)

/-! ## The windows' block indices -/

theorem idx0 : ∀ t : Fin cfg0.N, win0_0.index t (0 : Fin 2) = t.val / 7 ∧ win0_0.index t (1 : Fin 2) = 0 :=
  (by decide +kernel : ∀ t : Fin grid0.N, win0_0.index t (0 : Fin 2) = t.val / 7 ∧ win0_0.index t (1 : Fin 2) = 0)
theorem idx1 : ∀ t : Fin cfg0.N, win0_1.index t (0 : Fin 2) = 0 ∧ win0_1.index t (1 : Fin 2) = t.val % 7 :=
  (by decide +kernel : ∀ t : Fin grid0.N, win0_1.index t (0 : Fin 2) = 0 ∧ win0_1.index t (1 : Fin 2) = t.val % 7)
theorem idx2 : ∀ t : Fin cfg0.N, win0_2.index t (0 : Fin 3) = t.val / 7 ∧ win0_2.index t (1 : Fin 3) = 0 ∧ win0_2.index t (2 : Fin 3) = 0 :=
  (by decide +kernel : ∀ t : Fin grid0.N, win0_2.index t (0 : Fin 3) = t.val / 7 ∧ win0_2.index t (1 : Fin 3) = 0 ∧ win0_2.index t (2 : Fin 3) = 0)
theorem idx3 : ∀ t : Fin cfg0.N, win0_3.index t (0 : Fin 2) = 0 ∧ win0_3.index t (1 : Fin 2) = t.val % 7 :=
  (by decide +kernel : ∀ t : Fin grid0.N, win0_3.index t (0 : Fin 2) = 0 ∧ win0_3.index t (1 : Fin 2) = t.val % 7)
theorem idx4 : ∀ t : Fin cfg0.N, win0_4.index t (0 : Fin 3) = t.val / 7 ∧ win0_4.index t (1 : Fin 3) = 0 ∧ win0_4.index t (2 : Fin 3) = 0 :=
  (by decide +kernel : ∀ t : Fin grid0.N, win0_4.index t (0 : Fin 3) = t.val / 7 ∧ win0_4.index t (1 : Fin 3) = 0 ∧ win0_4.index t (2 : Fin 3) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 3) = t.val / 7 ∧ win0_6.index t (1 : Fin 3) = min (t.val % 7) 4 ∧ win0_6.index t (2 : Fin 3) = 0 :=
  (by decide +kernel : ∀ t : Fin grid0.N, win0_6.index t (0 : Fin 3) = t.val / 7 ∧ win0_6.index t (1 : Fin 3) = min (t.val % 7) 4 ∧ win0_6.index t (2 : Fin 3) = 0)
theorem idx7 : ∀ t : Fin cfg0.N, win0_7.index t (0 : Fin 3) = t.val / 7 ∧ win0_7.index t (1 : Fin 3) = 0 ∧ win0_7.index t (2 : Fin 3) = 0 :=
  (by decide +kernel : ∀ t : Fin grid0.N, win0_7.index t (0 : Fin 3) = t.val / 7 ∧ win0_7.index t (1 : Fin 3) = 0 ∧ win0_7.index t (2 : Fin 3) = 0)
theorem idx8 : ∀ t : Fin cfg0.N, win0_8.index t (0 : Fin 3) = t.val / 7 ∧ win0_8.index t (1 : Fin 3) = 0 ∧ win0_8.index t (2 : Fin 3) = 0 :=
  (by decide +kernel : ∀ t : Fin grid0.N, win0_8.index t (0 : Fin 3) = t.val / 7 ∧ win0_8.index t (1 : Fin 3) = 0 ∧ win0_8.index t (2 : Fin 3) = 0)

/-- The row of `t`, below 16. -/
theorem row_lt (t : Fin cfg0.N) : t.val / 7 < 16 := by have := lt_N t; omega

/-- Row `r` of the block of point `t` is token `1024 (t / 7) + r`. -/
abbrev tok (t : Fin cfg0.N) (r : Fin 1024) : Fin 16384 := ⟨1024 * (t.val / 7) + r.val, by have := row_lt t; omega⟩

/-- Column `e` of the block of point `t` is column `1024 (t % 7) + e`. -/
abbrev cl (t : Fin cfg0.N) (e : Fin 1024) : Fin 7168 := ⟨1024 * (t.val % 7) + e.val, by omega⟩

theorem emb0 (t : Fin cfg0.N) (r : Fin 1024) (k : Fin 5120) : ((cfg0.win 0).blk t).view.emb (ix2 r k) = ix2 (tok t r) k := by
  obtain ⟨h0, h1⟩ := idx0 t
  funext a
  apply Fin.ext
  match a with
  | ⟨0, _⟩ => show win0_0.index t (0 : Fin 2) * 1024 + 1 * r.val = 1024 * (t.val / 7) + r.val; omega
  | ⟨1, _⟩ => show win0_0.index t (1 : Fin 2) * 5120 + 1 * k.val = k.val; omega

theorem emb1 (t : Fin cfg0.N) (k : Fin 5120) (e : Fin 1024) : ((cfg0.win 1).blk t).view.emb (ix2 k e) = ix2 k (cl t e) := by
  obtain ⟨h0, h1⟩ := idx1 t
  funext a
  apply Fin.ext
  match a with
  | ⟨0, _⟩ => show win0_1.index t (0 : Fin 2) * 5120 + 1 * k.val = k.val; omega
  | ⟨1, _⟩ => show win0_1.index t (1 : Fin 2) * 1024 + 1 * e.val = 1024 * (t.val % 7) + e.val; omega

theorem emb2 (t : Fin cfg0.N) (r : Fin 1024) : ((cfg0.win 2).blk t).view.emb (ix3 0 0 r) = ix3 ⟨t.val / 7, row_lt t⟩ 0 r := by
  obtain ⟨h0, h1, h2⟩ := idx2 t
  funext a
  apply Fin.ext
  match a with
  | ⟨0, _⟩ => show win0_2.index t (0 : Fin 3) * 1 + 1 * 0 = t.val / 7; omega
  | ⟨1, _⟩ => show win0_2.index t (1 : Fin 3) * 1 + 1 * 0 = 0; omega
  | ⟨2, _⟩ => show win0_2.index t (2 : Fin 3) * 1024 + 1 * r.val = r.val; omega

theorem emb3 (t : Fin cfg0.N) (e : Fin 1024) : ((cfg0.win 3).blk t).view.emb (ix2 0 e) = ix2 0 (cl t e) := by
  obtain ⟨h0, h1⟩ := idx3 t
  funext a
  apply Fin.ext
  match a with
  | ⟨0, _⟩ => show win0_3.index t (0 : Fin 2) * 1 + 1 * 0 = 0; omega
  | ⟨1, _⟩ => show win0_3.index t (1 : Fin 2) * 1024 + 1 * e.val = 1024 * (t.val % 7) + e.val; omega

theorem emb4 (t : Fin cfg0.N) (r : Fin 1024) : ((cfg0.win 4).blk t).view.emb (ix3 0 0 r) = ix3 ⟨t.val / 7, row_lt t⟩ 0 r := by
  obtain ⟨h0, h1, h2⟩ := idx4 t
  funext a
  apply Fin.ext
  match a with
  | ⟨0, _⟩ => show win0_4.index t (0 : Fin 3) * 1 + 1 * 0 = t.val / 7; omega
  | ⟨1, _⟩ => show win0_4.index t (1 : Fin 3) * 1 + 1 * 0 = 0; omega
  | ⟨2, _⟩ => show win0_4.index t (2 : Fin 3) * 1024 + 1 * r.val = r.val; omega

theorem emb5 (t : Fin cfg0.N) (k : Fin 64) : ((cfg0.win 5).blk t).view.emb (ix2 k 0) = ix2 k 0 := by
  obtain ⟨h0, h1⟩ := idx5 t
  funext a
  apply Fin.ext
  match a with
  | ⟨0, _⟩ => show win0_5.index t (0 : Fin 2) * 64 + 1 * k.val = k.val; omega
  | ⟨1, _⟩ => show win0_5.index t (1 : Fin 2) * 1 + 1 * 0 = 0; omega

theorem emb6 (t : Fin cfg0.N) (r : Fin 1024) (q : Fin 8) (k : Fin 128) :
    ((cfg0.win 6).blk t).view.emb (ix3 r q k) = ix3 (tok t r) ⟨8 * min (t.val % 7) 4 + q.val, by omega⟩ k := by
  obtain ⟨h0, h1, h2⟩ := idx6 t
  funext a
  apply Fin.ext
  match a with
  | ⟨0, _⟩ => show win0_6.index t (0 : Fin 3) * 1024 + 1 * r.val = 1024 * (t.val / 7) + r.val; omega
  | ⟨1, _⟩ => show win0_6.index t (1 : Fin 3) * 8 + 1 * q.val = 8 * min (t.val % 7) 4 + q.val; omega
  | ⟨2, _⟩ => show win0_6.index t (2 : Fin 3) * 128 + 1 * k.val = k.val; omega

theorem emb7 (t : Fin cfg0.N) (r : Fin 1024) (q : Fin 8) (k : Fin 128) : ((cfg0.win 7).blk t).view.emb (ix3 r q k) = ix3 (tok t r) q k := by
  obtain ⟨h0, h1, h2⟩ := idx7 t
  funext a
  apply Fin.ext
  match a with
  | ⟨0, _⟩ => show win0_7.index t (0 : Fin 3) * 1024 + 1 * r.val = 1024 * (t.val / 7) + r.val; omega
  | ⟨1, _⟩ => show win0_7.index t (1 : Fin 3) * 8 + 1 * q.val = q.val; omega
  | ⟨2, _⟩ => show win0_7.index t (2 : Fin 3) * 128 + 1 * k.val = k.val; omega

theorem emb8 (t : Fin cfg0.N) (r : Fin 1024) (q : Fin 8) (k : Fin 128) : ((cfg0.win 8).blk t).view.emb (ix3 r q k) = ix3 (tok t r) q k := by
  obtain ⟨h0, h1, h2⟩ := idx8 t
  funext a
  apply Fin.ext
  match a with
  | ⟨0, _⟩ => show win0_8.index t (0 : Fin 3) * 1024 + 1 * r.val = 1024 * (t.val / 7) + r.val; omega
  | ⟨1, _⟩ => show win0_8.index t (1 : Fin 3) * 8 + 1 * q.val = q.val; omega
  | ⟨2, _⟩ => show win0_8.index t (2 : Fin 3) * 128 + 1 * k.val = k.val; omega

/-! ## The arrays the call reads, as the arguments -/

/-- The arguments: codes, scales, weights, weights' scales, positions and frequencies. -/
abbrev a0 (c : Dev nD) : Vec Ideal S16384x5120 .i8 := m ((c : Thread nD τ).loc main_arg0)
abbrev a1 (c : Dev nD) : Vec Ideal S64x1x256 .f32 := m ((c : Thread nD τ).loc main_arg1)
abbrev a2 (c : Dev nD) : Vec Ideal S5120x7168 .i8 := m ((c : Thread nD τ).loc main_arg2)
abbrev a3 (c : Dev nD) : Vec Ideal S7168 .f32 := m ((c : Thread nD τ).loc main_arg3)
abbrev a4 (c : Dev nD) : Vec Ideal S4x4096 .i32 := m ((c : Thread nD τ).loc main_arg4)
abbrev a5 (c : Dev nD) : Vec Ideal S64 .f32 := m ((c : Thread nD τ).loc main_arg5)

theorem V_scale (c : Dev nD) (i : Fin 16) (r : Fin 1024) : (V m c main_v0 : Vec Ideal S16x1x1024 .f32) (ix3 i 0 r)
    = a1 m c (ix3 ⟨(1024 * i.val + r.val) / 256, by omega⟩ 0 ⟨(1024 * i.val + r.val) % 256, by omega⟩) := by
  entry_read
  refine shapeCast_apply _ _ _ _ ?_
  show (S64x1x256.rowMajor _).val = (S16x1x1024.rowMajor _).val
  rw [Shape.rowMajor_val_three, Shape.rowMajor_val_three]
  show ((1024 * i.val + r.val) / 256 * 1 + 0) * 256 + (1024 * i.val + r.val) % 256 = (i.val * 1 + 0) * 1024 + r.val
  omega

theorem V_gain (c : Dev nD) (e : Fin 7168) : (V m c main_v1 : Vec Ideal S1x7168 .f32) (ix2 0 e) = a3 m c (ix1 e) := by
  entry_read
  pointwise

theorem V_pos (c : Dev nD) (i : Fin 16) (r : Fin 1024) : (V m c main_v2 : Vec Ideal S16x1x1024 .i32) (ix3 i 0 r)
    = a4 m c (ix2 ⟨(1024 * i.val + r.val) / 4096, by omega⟩ ⟨(1024 * i.val + r.val) % 4096, by omega⟩) := by
  entry_read
  refine shapeCast_apply _ _ _ _ ?_
  show (S4x4096.rowMajor _).val = (S16x1x1024.rowMajor _).val
  rw [Shape.rowMajor_val_three, Shape.rowMajor_val_two]
  show (1024 * i.val + r.val) / 4096 * 4096 + (1024 * i.val + r.val) % 4096 = (i.val * 1 + 0) * 1024 + r.val
  omega

theorem V_freq (c : Dev nD) (k : Fin 64) : (V m c main_v3 : Vec Ideal S64x1 .f32) (ix2 k 0) = a5 m c (ix1 k) := by
  entry_read
  pointwise

theorem blk0 (c : Dev nD) (t : Fin cfg0.N) (r : Fin 1024) (k : Fin 5120) : (iblk m c 0 t : Vec Ideal S1024x5120 .i8) (ix2 r k) = a0 m c (ix2 (tok t r) k) := by
  show (V m c main_arg0 : Vec Ideal S16384x5120 .i8) (((cfg0.win 0).blk t).view.emb (ix2 r k)) = _
  rw [emb0, V_main_arg0]

theorem blk1 (c : Dev nD) (t : Fin cfg0.N) (k : Fin 5120) (e : Fin 1024) : (iblk m c 1 t : Vec Ideal S5120x1024 .i8) (ix2 k e) = a2 m c (ix2 k (cl t e)) := by
  show (V m c main_arg2 : Vec Ideal S5120x7168 .i8) (((cfg0.win 1).blk t).view.emb (ix2 k e)) = _
  rw [emb1, V_main_arg2]

theorem blk2 (c : Dev nD) (t : Fin cfg0.N) (r : Fin 1024) : (iblk m c 2 t : Vec Ideal S1x1x1024 .f32) (ix3 0 0 r)
    = a1 m c (ix3 ⟨(tok t r).val / 256, by omega⟩ 0 ⟨(tok t r).val % 256, by omega⟩) := by
  show (V m c main_v0 : Vec Ideal S16x1x1024 .f32) (((cfg0.win 2).blk t).view.emb (ix3 0 0 r)) = _
  rw [emb2]
  exact V_scale m c ⟨t.val / 7, row_lt t⟩ r

theorem blk3 (c : Dev nD) (t : Fin cfg0.N) (e : Fin 1024) : (iblk m c 3 t : Vec Ideal S1x1024 .f32) (ix2 0 e) = a3 m c (ix1 (cl t e)) := by
  show (V m c main_v1 : Vec Ideal S1x7168 .f32) (((cfg0.win 3).blk t).view.emb (ix2 0 e)) = _
  rw [emb3]
  exact V_gain m c (cl t e)

theorem blk4 (c : Dev nD) (t : Fin cfg0.N) (r : Fin 1024) : (iblk m c 4 t : Vec Ideal S1x1x1024 .i32) (ix3 0 0 r)
    = a4 m c (ix2 ⟨(tok t r).val / 4096, by omega⟩ ⟨(tok t r).val % 4096, by omega⟩) := by
  show (V m c main_v2 : Vec Ideal S16x1x1024 .i32) (((cfg0.win 4).blk t).view.emb (ix3 0 0 r)) = _
  rw [emb4]
  exact V_pos m c ⟨t.val / 7, row_lt t⟩ r

theorem blk5 (c : Dev nD) (t : Fin cfg0.N) (k : Fin 64) : (iblk m c 5 t : Vec Ideal S64x1 .f32) (ix2 k 0) = a5 m c (ix1 k) := by
  show (V m c main_v3 : Vec Ideal S64x1 .f32) (((cfg0.win 5).blk t).view.emb (ix2 k 0)) = _
  rw [emb5]
  exact V_freq m c k

/-! ## What a point leaves, in the words of the specification -/

/-- The scale of token `n`. -/
def scaleOf (c : Dev nD) (n : Fin 16384) : EReal := a1 m c (ix3 ⟨n.val / 256, by omega⟩ 0 ⟨n.val % 256, by omega⟩)

/-- The position of token `n`. -/
def posOf (c : Dev nD) (n : Fin 16384) : BitVec 32 := a4 m c (ix2 ⟨n.val / 4096, by omega⟩ ⟨n.val % 4096, by omega⟩)

theorem tok_pt (t : Fin cfg0.N) (k : Nat) (hk : k < 7) (r : Fin 1024) : tok (pt t k hk) r = tok t r :=
  Fin.ext (by show 1024 * ((7 * (t.val / 7) + k) / 7) + r.val = 1024 * (t.val / 7) + r.val; omega)

theorem first_scale (c : Dev nD) (t : Fin cfg0.N) (r : Fin 1024) :
    (iblk m c 2 (pt t 0 (by omega)) : Vec Ideal S1x1x1024 .f32) (ix3 0 0 r) = scaleOf m c (tok t r) :=
  (blk2 m c (pt t 0 (by omega)) r).trans (congrArg (scaleOf m c) (tok_pt t 0 (by omega) r))

theorem first_pos (c : Dev nD) (t : Fin cfg0.N) (r : Fin 1024) :
    (iblk m c 4 (pt t 0 (by omega)) : Vec Ideal S1x1x1024 .i32) (ix3 0 0 r) = posOf m c (tok t r) :=
  (blk4 m c (pt t 0 (by omega)) r).trans (congrArg (posOf m c) (tok_pt t 0 (by omega) r))

/-- Column `e` of token `n`: the product with both scales. -/
abbrev P (c : Dev nD) : Fin 16384 → Fin 7168 → EReal := proj (a0 m c) (a2 m c) (a1 m c) (a3 m c)

/-- The angles of token `n`. -/
abbrev A (c : Dev nD) : Fin 16384 → Fin 64 → EReal := angs (a4 m c) (a5 m c)

theorem acc_blk (c : Dev nD) (t : Fin cfg0.N) (r e : Fin 1024) :
    acc (fun k => (iblk m c 0 t : Vec Ideal S1024x5120 .i8) (ix2 r k)) (fun k => (iblk m c 1 t : Vec Ideal S5120x1024 .i8) (ix2 k e))
      = acc (fun k => a0 m c (ix2 (tok t r) k)) (fun k => a2 m c (ix2 k (cl t e))) :=
  congrArg₂ acc (funext fun k => blk0 m c t r k) (funext fun k => blk1 m c t k e)

theorem col_eq (c : Dev nD) (t : Fin cfg0.N) (r : Fin 1024) (q : Fin 8) (k : Fin 128) :
    Block.col (iblk m c 0 t) (iblk m c 1 t) (iblk m c 2 (pt t 0 (by omega))) (iblk m c 3 t) r q k
      = P m c (tok t r) (cl t ⟨128 * q.val + k.val, by omega⟩) :=
  congrArg₂ (· * ·) (congrArg₂ (· * ·) (acc_blk m c t r ⟨128 * q.val + k.val, by omega⟩) (first_scale m c t r)) (blk3 m c t ⟨128 * q.val + k.val, by omega⟩)

theorem ang_eq (c : Dev nD) (t : Fin cfg0.N) (r : Fin 1024) (k : Fin 64) :
    ang ((iblk m c 4 (pt t 0 (by omega)) : Vec Ideal S1x1x1024 .i32) (ix3 0 0 r)) ((iblk m c 5 (pt t 0 (by omega)) : Vec Ideal S64x1 .f32) (ix2 k 0))
      = A m c (tok t r) k :=
  congrArg₂ ang (first_pos m c t r) (blk5 m c (pt t 0 (by omega)) k)

theorem leftQ_apply (c : Dev nD) (t : Fin cfg0.N) (r : Fin 1024) (q : Fin 8) (k : Fin 128) : leftQ m c t (ix3 r q k)
    = rope (fun k => P m c (tok t r) (cl t ⟨128 * q.val + k.val, by omega⟩)) (A m c (tok t r)) k :=
  (Block.outQ_block _ _ _ _ _ _ r q k).trans
    (congrArg₂ (fun y a => rope y a k) (funext fun k => col_eq m c t r q k) (funext fun k => ang_eq m c t r k))

theorem leftK_apply (c : Dev nD) (t : Fin cfg0.N) (r : Fin 1024) (q : Fin 8) (k : Fin 128) : leftK m c t (ix3 r q k)
    = rope (fun k => P m c (tok t r) (cl t ⟨128 * q.val + k.val, by omega⟩)) (A m c (tok t r)) k :=
  (Block.outK_block _ _ _ _ _ _ r q k).trans
    (congrArg₂ (fun y a => rope y a k) (funext fun k => col_eq m c t r q k) (funext fun k => ang_eq m c t r k))

theorem leftV_apply (c : Dev nD) (t : Fin cfg0.N) (r : Fin 1024) (q : Fin 8) (k : Fin 128) : leftV m c t (ix3 r q k)
    = P m c (tok t r) (cl t ⟨128 * q.val + k.val, by omega⟩) :=
  (Block.outV_block _ _ _ _ _ _ r q k).trans (col_eq m c t r q k)

/-! ## The reference's results, and the blocks written back -/

/-- The reference's queries of the launched arguments. -/
def R6 (c : Dev nD) : Vec Ideal S16384x40x128 .bf16 :=
  Cert.ProjRefIdeal.Whole.G6 (F := Ideal) (a0 m c) (a1 m c) (a2 m c) (a3 m c) (a4 m c) (a5 m c)

/-- The reference's keys of the launched arguments. -/
def R7 (c : Dev nD) : Vec Ideal S16384x8x128 .bf16 :=
  Cert.ProjRefIdeal.Whole.G7 (F := Ideal) (a0 m c) (a1 m c) (a2 m c) (a3 m c) (a4 m c) (a5 m c)

/-- The reference's values of the launched arguments. -/
def R8 (c : Dev nD) : Vec Ideal S16384x8x128 .bf16 :=
  Cert.ProjRefIdeal.Whole.G8 (F := Ideal) (a0 m c) (a1 m c) (a2 m c) (a3 m c) (a4 m c) (a5 m c)

theorem R6_apply (c : Dev nD) (n : Fin 16384) (q : Fin 40) (k : Fin 128) :
    R6 m c (ix3 n q k) = rope (fun k => P m c n ⟨128 * q.val + k.val, by omega⟩) (A m c n) k :=
  Cert.ProjRefIdeal.Pay.qrope_apply _ _ _ _ _ _ n q k

theorem R7_apply (c : Dev nD) (n : Fin 16384) (q : Fin 8) (k : Fin 128) :
    R7 m c (ix3 n q k) = rope (fun k => P m c n ⟨5120 + (128 * q.val + k.val), by omega⟩) (A m c n) k :=
  Cert.ProjRefIdeal.Pay.krope_apply _ _ _ _ _ _ n q k

theorem R8_apply (c : Dev nD) (n : Fin 16384) (q : Fin 8) (k : Fin 128) :
    R8 m c (ix3 n q k) = P m c n ⟨6144 + (128 * q.val + k.val), by omega⟩ :=
  Cert.ProjRefIdeal.Pay.vhead_apply _ _ _ _ n q k

/-- Equal token, and equal columns at every place, give equal entries. -/
theorem P_congr (c : Dev nD) {n n' : Fin 16384} {e e' : Fin 7168} (hn : n = n') (he : e.val = e'.val) : P m c n e = P m c n' e' := by
  subst hn
  exact Cert.ProjRefIdeal.Pay.proj_congr (h := he)

theorem ptQ_div (t : Fin cfg0.N) : (ptQ t).val / 7 = t.val / 7 := by
  unfold ptQ
  split
  · rfl
  · show (7 * (t.val / 7) + 4) / 7 = t.val / 7
    omega

theorem ptQ_mod (t : Fin cfg0.N) : (ptQ t).val % 7 = min (t.val % 7) 4 := by
  unfold ptQ
  split
  · omega
  · show (7 * (t.val / 7) + 4) % 7 = min (t.val % 7) 4
    omega

theorem tok_ptQ (t : Fin cfg0.N) (r : Fin 1024) : tok (ptQ t) r = tok t r :=
  Fin.ext (by show 1024 * ((ptQ t).val / 7) + r.val = 1024 * (t.val / 7) + r.val; rw [ptQ_div])

theorem entry6 (c : Dev nD) (t : Fin cfg0.N) (r : Fin 1024) (q : Fin 8) (k : Fin 128) :
    leftQ m c (ptQ t) (ix3 r q k) = R6 m c (ix3 (tok t r) ⟨8 * min (t.val % 7) 4 + q.val, by omega⟩ k) := by
  refine (leftQ_apply m c (ptQ t) r q k).trans (Eq.trans ?_ (R6_apply m c _ _ k).symm)
  refine congrArg₂ (fun y a => rope y a k) (funext fun k => P_congr m c (tok_ptQ t r) ?_) (congrArg (A m c) (tok_ptQ t r))
  have h := ptQ_mod t
  show 1024 * ((ptQ t).val % 7) + (128 * q.val + k.val) = 128 * (8 * min (t.val % 7) 4 + q.val) + k.val
  omega

theorem entry7 (c : Dev nD) (t : Fin cfg0.N) (r : Fin 1024) (q : Fin 8) (k : Fin 128) :
    leftK m c (pt t 5 (by omega)) (ix3 r q k) = R7 m c (ix3 (tok t r) q k) := by
  refine (leftK_apply m c (pt t 5 (by omega)) r q k).trans (Eq.trans ?_ (R7_apply m c _ _ k).symm)
  refine congrArg₂ (fun y a => rope y a k) (funext fun k => P_congr m c (tok_pt t 5 (by omega) r) ?_) (congrArg (A m c) (tok_pt t 5 (by omega) r))
  show 1024 * ((7 * (t.val / 7) + 5) % 7) + (128 * q.val + k.val) = 5120 + (128 * q.val + k.val)
  omega

theorem entry8 (c : Dev nD) (t : Fin cfg0.N) (r : Fin 1024) (q : Fin 8) (k : Fin 128) :
    leftV m c (pt t 6 (by omega)) (ix3 r q k) = R8 m c (ix3 (tok t r) q k) := by
  refine (leftV_apply m c (pt t 6 (by omega)) r q k).trans (Eq.trans ?_ (R8_apply m c _ _ k).symm)
  refine P_congr m c (tok_pt t 6 (by omega) r) ?_
  show 1024 * ((7 * (t.val / 7) + 6) % 7) + (128 * q.val + k.val) = 6144 + (128 * q.val + k.val)
  omega

theorem ix_of (j : S1024x8x128.Idx) : ∃ (r : Fin 1024) (q : Fin 8) (k : Fin 128), j = ix3 r q k :=
  ⟨j 0, j 1, j 2, by
    funext a
    match a with
    | ⟨0, _⟩ => rfl
    | ⟨1, _⟩ => rfl
    | ⟨2, _⟩ => rfl⟩

theorem to6 (t : Fin cfg0.N) (X : Vec Ideal S1024x8x128 .bf16) (Y : Vec Ideal S16384x40x128 .bf16)
    (h : ∀ j : S1024x8x128.Idx, X j = Y (((cfg0.win 6).blk t).view.emb j)) :
    (cfg0.win 6).cut (grid0.coords t) X = ((cfg0.win 6).blk t).view.read (Elt Ideal) Y := funext h

theorem to7 (t : Fin cfg0.N) (X : Vec Ideal S1024x8x128 .bf16) (Y : Vec Ideal S16384x8x128 .bf16)
    (h : ∀ j : S1024x8x128.Idx, X j = Y (((cfg0.win 7).blk t).view.emb j)) :
    (cfg0.win 7).cut (grid0.coords t) X = ((cfg0.win 7).blk t).view.read (Elt Ideal) Y := funext h

theorem to8 (t : Fin cfg0.N) (X : Vec Ideal S1024x8x128 .bf16) (Y : Vec Ideal S16384x8x128 .bf16)
    (h : ∀ j : S1024x8x128.Idx, X j = Y (((cfg0.win 8).blk t).view.emb j)) :
    (cfg0.win 8).cut (grid0.coords t) X = ((cfg0.win 8).blk t).view.read (Elt Ideal) Y := funext h

theorem block6 (c : Dev nD) (t : Fin cfg0.N) (j : S1024x8x128.Idx) :
    leftQ m c (ptQ t) j = R6 m c (((cfg0.win 6).blk t).view.emb j) := by
  obtain ⟨r, q, k, rfl⟩ := ix_of j
  rw [emb6]
  exact entry6 m c t r q k

theorem block7 (c : Dev nD) (t : Fin cfg0.N) (j : S1024x8x128.Idx) :
    leftK m c (pt t 5 (by omega)) j = R7 m c (((cfg0.win 7).blk t).view.emb j) := by
  obtain ⟨r, q, k, rfl⟩ := ix_of j
  rw [emb7]
  exact entry7 m c t r q k

theorem block8 (c : Dev nD) (t : Fin cfg0.N) (j : S1024x8x128.Idx) :
    leftV m c (pt t 6 (by omega)) j = R8 m c (((cfg0.win 8).blk t).view.emb j) := by
  obtain ⟨r, q, k, rfl⟩ := ix_of j
  rw [emb8]
  exact entry8 m c t r q k

/-- What point `t` writes back are the reference's queries of its tokens and heads. -/
theorem flushed6_eq (c : Dev nD) (t : Fin cfg0.N) :
    (dats m 0 c).flushed 6 t = ((cfg0.win 6).blk t).view.read (Elt Ideal) (R6 m c) := by
  show (cfg0.win 6).cut (grid0.coords t) ((dats m 0 c).after 6 t) = _
  rw [after0_6]
  exact to6 t _ _ (block6 m c t)

/-- What point `t` writes back are the reference's keys of its tokens. -/
theorem flushed7_eq (c : Dev nD) (t : Fin cfg0.N) :
    (dats m 0 c).flushed 7 t = ((cfg0.win 7).blk t).view.read (Elt Ideal) (R7 m c) := by
  show (cfg0.win 7).cut (grid0.coords t) ((dats m 0 c).after 7 t) = _
  rw [after0_7]
  exact to7 t _ _ (block7 m c t)

/-- What point `t` writes back are the reference's values of its tokens. -/
theorem flushed8_eq (c : Dev nD) (t : Fin cfg0.N) :
    (dats m 0 c).flushed 8 t = ((cfg0.win 8).blk t).view.read (Elt Ideal) (R8 m c) := by
  show (cfg0.win 8).cut (grid0.coords t) ((dats m 0 c).after 8 t) = _
  rw [after0_8]
  exact to8 t _ _ (block8 m c t)

/-! ## The blocks written back cover the results -/

theorem mem6 (t : Fin cfg0.N) (r : Fin 1024) (q : Fin 8) (k : Fin 128) :
    (ix3 (tok t r) ⟨8 * min (t.val % 7) 4 + q.val, by omega⟩ k : S16384x40x128.Idx) ∈ ((cfg0.win 6).blk t).view.set := by
  rw [← emb6]
  exact ((cfg0.win 6).blk t).view.emb_mem_set _

theorem mem7 (t : Fin cfg0.N) (r : Fin 1024) (q : Fin 8) (k : Fin 128) :
    (ix3 (tok t r) q k : S16384x8x128.Idx) ∈ ((cfg0.win 7).blk t).view.set := by
  rw [← emb7]
  exact ((cfg0.win 7).blk t).view.emb_mem_set _

theorem mem8 (t : Fin cfg0.N) (r : Fin 1024) (q : Fin 8) (k : Fin 128) :
    (ix3 (tok t r) q k : S16384x8x128.Idx) ∈ ((cfg0.win 8).blk t).view.set := by
  rw [← emb8]
  exact ((cfg0.win 8).blk t).view.emb_mem_set _

/-- Point `k` of row `i`. -/
def at_ (i k : Nat) (hi : i < 16) (hk : k < 7) : Fin cfg0.N :=
  ⟨7 * i + k, lt_of_lt_of_eq (by omega : 7 * i + k < 112) (show 112 = cfg0.N from N_0.symm)⟩

/-- The point that writes back group `g` of the query heads: its own point, but the last group's is the row's last point. -/
def grp (g : Nat) : Nat := if g < 4 then g else 6

theorem grp_lt (g : Nat) : grp g < 7 := by unfold grp; split <;> omega
theorem grp_min (g : Nat) (h : g < 5) : min (grp g) 4 = g := by unfold grp; split <;> omega
theorem grp_ne (g : Nat) : ¬ (grp g = 4 ∨ grp g = 5) := by unfold grp; split <;> omega

theorem covered6 (i : S16384x40x128.Idx) : ∃ t : Fin cfg0.N, (cfg0.win 6).flush t = true ∧ i ∈ ((cfg0.win 6).blk t).view.set := by
  have h0 : (i 0).val < 16384 := (i 0).isLt
  have h1 : (i 1).val < 40 := (i 1).isLt
  have hg := grp_lt ((i 1).val / 8)
  have hm := grp_min ((i 1).val / 8) (by omega)
  have hn := grp_ne ((i 1).val / 8)
  have hmod : (7 * ((i 0).val / 1024) + grp ((i 1).val / 8)) % 7 = grp ((i 1).val / 8) := by omega
  refine ⟨at_ ((i 0).val / 1024) (grp ((i 1).val / 8)) (by omega) hg, ?_, ?_⟩
  · rw [flush6]
    show (!decide ((7 * ((i 0).val / 1024) + grp ((i 1).val / 8)) % 7 = 4 ∨ (7 * ((i 0).val / 1024) + grp ((i 1).val / 8)) % 7 = 5)) = true
    rw [hmod, decide_eq_false hn]
    rfl
  · have h := mem6 (at_ ((i 0).val / 1024) (grp ((i 1).val / 8)) (by omega) hg) ⟨(i 0).val % 1024, by omega⟩ ⟨(i 1).val % 8, by omega⟩ (i 2)
    have e : (ix3 (tok (at_ ((i 0).val / 1024) (grp ((i 1).val / 8)) (by omega) hg) ⟨(i 0).val % 1024, by omega⟩)
        ⟨8 * min ((at_ ((i 0).val / 1024) (grp ((i 1).val / 8)) (by omega) hg).val % 7) 4 + (i 1).val % 8, by omega⟩ (i 2) : S16384x40x128.Idx) = i := by
      funext a
      match a with
      | ⟨0, _⟩ => exact Fin.ext (by
          show 1024 * ((7 * ((i 0).val / 1024) + grp ((i 1).val / 8)) / 7) + (i 0).val % 1024 = (i 0).val
          omega)
      | ⟨1, _⟩ => exact Fin.ext (by
          show 8 * min ((7 * ((i 0).val / 1024) + grp ((i 1).val / 8)) % 7) 4 + (i 1).val % 8 = (i 1).val
          rw [hmod, hm]
          omega)
      | ⟨2, _⟩ => rfl
    rwa [e] at h

theorem last_tok (i : S16384x8x128.Idx) (h0 : (i 0).val < 16384) :
    (ix3 (tok (at_ ((i 0).val / 1024) 6 (by omega) (by omega)) ⟨(i 0).val % 1024, by omega⟩) (i 1) (i 2) : S16384x8x128.Idx) = i := by
  funext a
  match a with
  | ⟨0, _⟩ => exact Fin.ext (by
      show 1024 * ((7 * ((i 0).val / 1024) + 6) / 7) + (i 0).val % 1024 = (i 0).val
      omega)
  | ⟨1, _⟩ => rfl
  | ⟨2, _⟩ => rfl

theorem last_mod (i : Nat) (hi : i < 16) : (at_ i 6 hi (by omega)).val % 7 = 6 := by
  show (7 * i + 6) % 7 = 6
  omega

theorem covered7 (i : S16384x8x128.Idx) : ∃ t : Fin cfg0.N, (cfg0.win 7).flush t = true ∧ i ∈ ((cfg0.win 7).blk t).view.set := by
  have h0 : (i 0).val < 16384 := (i 0).isLt
  refine ⟨at_ ((i 0).val / 1024) 6 (by omega) (by omega), ?_, ?_⟩
  · rw [flush7]
    exact decide_eq_true (last_mod _ (by omega))
  · have h := mem7 (at_ ((i 0).val / 1024) 6 (by omega) (by omega)) ⟨(i 0).val % 1024, by omega⟩ (i 1) (i 2)
    rwa [last_tok i h0] at h

theorem covered8 (i : S16384x8x128.Idx) : ∃ t : Fin cfg0.N, (cfg0.win 8).flush t = true ∧ i ∈ ((cfg0.win 8).blk t).view.set := by
  have h0 : (i 0).val < 16384 := (i 0).isLt
  refine ⟨at_ ((i 0).val / 1024) 6 (by omega) (by omega), ?_, ?_⟩
  · rw [flush8]
    exact decide_eq_true (last_mod _ (by omega))
  · have h := mem8 (at_ ((i 0).val / 1024) 6 (by omega) (by omega)) ⟨(i 0).val % 1024, by omega⟩ (i 1) (i 2)
    rwa [last_tok i h0] at h

theorem final6 (c : Dev nD) : (dats m 0 c).arrAt 6 cfg0.N = R6 m c :=
  (dats m 0 c).arrAt_eq_of_cover 6 (R6 m c) (fun t _ => flushed6_eq m c t) covered6

theorem final7 (c : Dev nD) : (dats m 0 c).arrAt 7 cfg0.N = R7 m c :=
  (dats m 0 c).arrAt_eq_of_cover 7 (R7 m c) (fun t _ => flushed7_eq m c t) covered7

theorem final8 (c : Dev nD) : (dats m 0 c).arrAt 8 cfg0.N = R8 m c :=
  (dats m 0 c).arrAt_eq_of_cover 8 (R8 m c) (fun t _ => flushed8_eq m c t) covered8

end Cert.ProjIdeal.Fin

namespace Cert.PVal

open Idealize.ShloMosaic Idealize.ShloMosaic.TcCoe Idealize.SL.Sem

theorem congr6 {α₀ α₁ α₂ α₃ α₄ α₅ β : Type} (f : α₀ → α₁ → α₂ → α₃ → α₄ → α₅ → β) {x₀ y₀ : α₀} {x₁ y₁ : α₁} {x₂ y₂ : α₂} {x₃ y₃ : α₃}
    {x₄ y₄ : α₄} {x₅ y₅ : α₅} (h₀ : x₀ = y₀) (h₁ : x₁ = y₁) (h₂ : x₂ = y₂) (h₃ : x₃ = y₃) (h₄ : x₄ = y₄) (h₅ : x₅ = y₅) :
    f x₀ x₁ x₂ x₃ x₄ x₅ = f y₀ y₁ y₂ y₃ y₄ y₅ := by
  subst h₀ h₁ h₂ h₃ h₄ h₅; rfl

/-- The projecting call and its reference end with equal queries, keys and values. -/
theorem algebraic : @Cert.algebraic_ProjIdeal_ProjRefIdeal Cert.ProjIdeal.Gen.facts Cert.ProjRefIdeal.Gen.facts := by
  intro m g m' g' _ hargs
  refine ⟨fun c => Cert.ProjIdeal.Fin.R6 m c, fun c => Cert.ProjIdeal.Fin.R7 m c, fun c => Cert.ProjIdeal.Fin.R8 m c, ?_, ?_⟩
  · refine (θ_run _ _ _).mono (fun r h c => ?_) (θ_run_and (Cert.ProjIdeal.Hand.run_main m g) (Cert.ProjIdeal.Hand.unchanged m g))
    have hf := (h.1 c).1
    exact ⟨(hf 6).trans (Cert.ProjIdeal.Fin.final6 m c), (hf 7).trans (Cert.ProjIdeal.Fin.final7 m c),
      (hf 8).trans (Cert.ProjIdeal.Fin.final8 m c), h.2 c⟩
  · refine (θ_run _ _ _).mono (fun r h c => ?_) (Cert.ProjRefIdeal.Whole.run m' g')
    obtain ⟨h6, h7, h8, ha⟩ := h c
    obtain ⟨e0, e1, e2, e3, e4, e5⟩ := hargs c
    exact ⟨h6.trans (congr6 (Cert.ProjRefIdeal.Whole.G6 (F := Ideal)) e0 e1 e2 e3 e4 e5),
      h7.trans (congr6 (Cert.ProjRefIdeal.Whole.G7 (F := Ideal)) e0 e1 e2 e3 e4 e5),
      h8.trans (congr6 (Cert.ProjRefIdeal.Whole.G8 (F := Ideal)) e0 e1 e2 e3 e4 e5), ha⟩

end Cert.PVal

end
-- ==== Proof.Mine.Proj.Runs.lean ====
/- What the runs of the projecting kernel share: its branch conditions in closed form and its buffers as memrefs. -/
module

public import proofs.«01_k».proof.Proof.Gen.Proj.Frame
public import proofs.«01_k».proof.Proof.Gen.Proj.Launch
public import proofs.«01_k».proof.Proof.Gen.Proj.Skeleton
public import proofs.«01_k».proof.Proof.Gen.Proj.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of large extents: the structural look
-- recurses once per coordinate of the long axes
set_option maxRecDepth 16384

noncomputable section

namespace Cert.Proj.Hand

open Cert.Proj Cert.Proj.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Proj`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 1 rfl).trans ((hA c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin cfg0.N, cond0_0 (grid0.coords t) ↔ t.val % 7 = 0 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 4 — decided over the grid. -/
theorem hcond0_1 : ∀ t : Fin cfg0.N, cond0_1 (grid0.coords t) ↔ t.val % 7 ≤ 4 :=
  (by decide +kernel : ∀ t : Fin grid0.N, cond0_1 (grid0.coords t) ↔ t.val % 7 ≤ 4)

/-- The condition of the body's `scf.if` 2 (`k0_h3`), from the grid coordinates (the skeleton's scalar
    chain substituted). -/
abbrev cond0_2 (i : grid0.Coords) : Prop := k0_cond3 i = 1#1
/-- It holds at the points ≡ 5 (mod 7) — by arithmetic of the point. -/
theorem hcond0_2 : ∀ t : Fin cfg0.N, cond0_2 (grid0.coords t) ↔ t.val % 7 = 5 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_2, k0_cond3, e0, e1]
    word_cmp
   : ∀ t : Fin grid0.N, cond0_2 (grid0.coords t) ↔ t.val % 7 = 5)

/-- The condition of the body's `scf.if` 3 (`k0_h4`), from the grid coordinates (the skeleton's scalar
    chain substituted). -/
abbrev cond0_3 (i : grid0.Coords) : Prop := k0_cond4 i = 1#1
/-- It holds at the points ≡ 6 (mod 7) — by arithmetic of the point. -/
theorem hcond0_3 : ∀ t : Fin cfg0.N, cond0_3 (grid0.coords t) ↔ t.val % 7 = 6 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_3, k0_cond4, e0, e1]
    word_cmp
   : ∀ t : Fin grid0.N, cond0_3 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x5120 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x8x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x8x128 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S3x1024x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proj.Hand

end
-- ==== Proof.Mine.Proj.RunA.lean ====
/- The body of the projecting kernel run whole in case A of its branches, nothing named of what it leaves. -/
module

public import proofs.«01_k».proof.Proof.Mine.Proj.Runs

@[expose] public section

-- membership in a rectangle of large extents: the structural look
-- recurses once per coordinate of the long axes
set_option maxRecDepth 16384

noncomputable section

namespace Cert.Proj.Hand

open Cert.Proj Cert.Proj.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken, `scf.if` 2 not taken, `scf.if` 3 not taken: points 0, 7, … 105: 16 of 112): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1024x5120 .i8) (harg2 : arg2.IsWhole) (arg3 : Memref sig .tc .vmem S5120x1024 .i8) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1x1024 .i32) (harg6 : arg6.IsWhole) (arg7 : Memref sig .tc .vmem S64x1 .f32) (harg7 : arg7.IsWhole) (arg8 : Memref sig .tc .vmem S1024x8x128 .bf16) (harg8 : arg8.IsWhole) (arg9 : Memref sig .tc .vmem S1024x8x128 .bf16) (harg9 : arg9.IsWhole) (arg10 : Memref sig .tc .vmem S1024x8x128 .bf16) (harg10 : arg10.IsWhole) (arg11 : Memref sig .tc .vmem S3x1024x128 .f32) (harg11 : arg11.IsWhole) (hc0 : cond0_0 i) (hc1 : cond0_1 i) (hc2 : ¬cond0_2 i) (hc3 : ¬cond0_3 i)
    (x0 : Vec F S1024x5120 .i8) (x1 : Vec F S5120x1024 .i8) (x2 : Vec F S1x1x1024 .f32) (x3 : Vec F S1x1024 .f32) (x4 : Vec F S1x1x1024 .i32) (x5 : Vec F S64x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
    intro E K
    simp only [cc0_proj_eq_skeleton]; unfold cc0_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact HS0
    ipureintro; rfl

end Cert.Proj.Hand

end
-- ==== Proof.Mine.Proj.RunB.lean ====
/- The body of the projecting kernel run whole in case B of its branches, nothing named of what it leaves. -/
module

public import proofs.«01_k».proof.Proof.Mine.Proj.RunA

@[expose] public section

-- membership in a rectangle of large extents: the structural look
-- recurses once per coordinate of the long axes
set_option maxRecDepth 16384

noncomputable section

namespace Cert.Proj.Hand

open Cert.Proj Cert.Proj.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken, `scf.if` 2 not taken, `scf.if` 3 not taken: points 1, 2, … 109: 64 of 112): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1024x5120 .i8) (harg2 : arg2.IsWhole) (arg3 : Memref sig .tc .vmem S5120x1024 .i8) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1x1024 .i32) (harg6 : arg6.IsWhole) (arg7 : Memref sig .tc .vmem S64x1 .f32) (harg7 : arg7.IsWhole) (arg8 : Memref sig .tc .vmem S1024x8x128 .bf16) (harg8 : arg8.IsWhole) (arg9 : Memref sig .tc .vmem S1024x8x128 .bf16) (harg9 : arg9.IsWhole) (arg10 : Memref sig .tc .vmem S1024x8x128 .bf16) (harg10 : arg10.IsWhole) (arg11 : Memref sig .tc .vmem S3x1024x128 .f32) (harg11 : arg11.IsWhole) (hc0 : ¬cond0_0 i) (hc1 : cond0_1 i) (hc2 : ¬cond0_2 i) (hc3 : ¬cond0_3 i)
    (x0 : Vec F S1024x5120 .i8) (x1 : Vec F S5120x1024 .i8) (x2 : Vec F S1x1x1024 .f32) (x3 : Vec F S1x1024 .f32) (x4 : Vec F S1x1x1024 .i32) (x5 : Vec F S64x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
    intro E K
    simp only [cc0_proj_eq_skeleton]; unfold cc0_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact HS0
    ipureintro; rfl

end Cert.Proj.Hand

end
-- ==== Proof.Mine.Proj.RunC.lean ====
/- The body of the projecting kernel run whole in case C of its branches, nothing named of what it leaves. -/
module

public import proofs.«01_k».proof.Proof.Mine.Proj.RunB

@[expose] public section

-- membership in a rectangle of large extents: the structural look
-- recurses once per coordinate of the long axes
set_option maxRecDepth 16384

noncomputable section

namespace Cert.Proj.Hand

open Cert.Proj Cert.Proj.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 not taken, `scf.if` 2 taken, `scf.if` 3 not taken: points 5, 12, … 110: 16 of 112): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S1024x5120 .i8) (harg2 : arg2.IsWhole) (arg3 : Memref sig .tc .vmem S5120x1024 .i8) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1x1024 .i32) (harg6 : arg6.IsWhole) (arg7 : Memref sig .tc .vmem S64x1 .f32) (harg7 : arg7.IsWhole) (arg8 : Memref sig .tc .vmem S1024x8x128 .bf16) (harg8 : arg8.IsWhole) (arg9 : Memref sig .tc .vmem S1024x8x128 .bf16) (harg9 : arg9.IsWhole) (arg10 : Memref sig .tc .vmem S1024x8x128 .bf16) (harg10 : arg10.IsWhole) (arg11 : Memref sig .tc .vmem S3x1024x128 .f32) (harg11 : arg11.IsWhole) (hc0 : ¬cond0_0 i) (hc1 : ¬cond0_1 i) (hc2 : cond0_2 i) (hc3 : ¬cond0_3 i)
    (x0 : Vec F S1024x5120 .i8) (x1 : Vec F S5120x1024 .i8) (x2 : Vec F S1x1x1024 .f32) (x3 : Vec F S1x1024 .f32) (x4 : Vec F S1x1x1024 .i32) (x5 : Vec F S64x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
    intro E K
    simp only [cc0_proj_eq_skeleton]; unfold cc0_proj_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact HS0
    ipureintro; rfl

end Cert.Proj.Hand

end
-- ==== Proof.Mine.Proj.RunD.lean ====
/- The body of the projecting kernel run whole in case D of its branches, nothing named of what it leaves. -/
module

public import proofs.«01_k».proof.Proof.Mine.Proj.RunC

@[expose] public section

-- membership in a rectangle of large extents: the structural look
-- recurses once per coordinate of the long axes
set_option maxRecDepth 16384

noncomputable section

namespace Cert.Proj.Hand

open Cert.Proj Cert.Proj.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE D (`scf.if` 0 not taken, `scf.if` 1 not taken, `scf.if` 2 not taken, `scf.if` 3 taken: points 6, 13, … 111: 16 of 112): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg2 : Memref sig .tc .vmem S1024x5120 .i8) (harg2 : arg2.IsWhole) (arg3 : Memref sig .tc .vmem S5120x1024 .i8) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1x1024 .i32) (harg6 : arg6.IsWhole) (arg7 : Memref sig .tc .vmem S64x1 .f32) (harg7 : arg7.IsWhole) (arg8 : Memref sig .tc .vmem S1024x8x128 .bf16) (harg8 : arg8.IsWhole) (arg9 : Memref sig .tc .vmem S1024x8x128 .bf16) (harg9 : arg9.IsWhole) (arg10 : Memref sig .tc .vmem S1024x8x128 .bf16) (harg10 : arg10.IsWhole) (arg11 : Memref sig .tc .vmem S3x1024x128 .f32) (harg11 : arg11.IsWhole) (hc0 : ¬cond0_0 i) (hc1 : ¬cond0_1 i) (hc2 : ¬cond0_2 i) (hc3 : cond0_3 i)
    (x0 : Vec F S1024x5120 .i8) (x1 : Vec F S5120x1024 .i8) (x2 : Vec F S1x1x1024 .f32) (x3 : Vec F S1x1024 .f32) (x4 : Vec F S1x1x1024 .i32) (x5 : Vec F S64x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
    intro E K
    simp only [cc0_proj_eq_skeleton]; unfold cc0_proj_skel
    simp only [k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact HS0
    ipureintro; rfl

end Cert.Proj.Hand

end
-- ==== Proof.Mine.Proj.Frame.lean ====
/- The frame of the projecting kernel: it terminates without fault and leaves its arguments as they were. -/
module

public import proofs.«01_k».proof.Proof.Mine.Proj.RunD
public import Idealize.ShloMosaic.Lib.Claim

@[expose] public section

-- membership in a rectangle of large extents: the structural look
-- recurses once per coordinate of the long axes
set_option maxRecDepth 16384

noncomputable section

namespace Cert.Proj.Hand

open Cert.Proj Cert.Proj.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 112 := lt_of_lt_of_eq t.isLt (show cfg0.N = 112 from N_0)
  by_cases h0 : t.val % 7 = 0
  · by_cases h1 : t.val % 7 ≤ 4
    · by_cases h2 : t.val % 7 = 5
      · exfalso; omega
      · by_cases h3 : t.val % 7 = 6
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [HS0]; · iexact HS0
          iintro ⟨H0, H1, H2, H3, H4, H5, H6, H7, H8, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
    · exfalso; omega
  · by_cases h1 : t.val % 7 ≤ 4
    · by_cases h2 : t.val % 7 = 5
      · exfalso; omega
      · by_cases h3 : t.val % 7 = 6
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [HS0]; · iexact HS0
          iintro ⟨H0, H1, H2, H3, H4, H5, H6, H7, H8, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
    · by_cases h2 : t.val % 7 = 5
      · by_cases h3 : t.val % 7 = 6
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [HS0]; · iexact HS0
          iintro ⟨H0, H1, H2, H3, H4, H5, H6, H7, H8, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
      · by_cases h3 : t.val % 7 = 6
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_D c (grid0.coords t) _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [HS0]; · iexact HS0
          iintro ⟨H0, H1, H2, H3, H4, H5, H6, H7, H8, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Proj`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proj.Hand

end
-- ==== Proof.lean ====
module

public import proofs.«01_k».proof.Defs
public import proofs.«01_k».proof.Proof.Gen.Quant
public import proofs.«01_k».proof.Proof.Gen.Quant.Frame
public import proofs.«01_k».proof.Proof.Gen.QuantIdeal
public import proofs.«01_k».proof.Proof.Gen.QuantIdeal.Frame
public import proofs.«01_k».proof.Proof.Gen.QuantRefIdeal
public import proofs.«01_k».proof.Proof.Gen.QuantRefIdeal.Frame
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Frame
public import proofs.«01_k».proof.Proof.Mine.QVal
public import proofs.«01_k».proof.Proof.Mine.PVal
public import proofs.«01_k».proof.Proof.Mine.Proj.Frame
public import proofs.«01_k».proof.Proof.Mine.ProjIdeal.Frame
public import Idealize.ShloMosaic.Adequacy
public import Idealize.ShloMosaic.Init
public import Idealize.ShloMosaic.Lib.Bf16Pair

@[expose] public section

noncomputable section

namespace Cert.Proof

open Idealize.ShloMosaic Idealize.SL.Sem

theorem claim : Cert.Claim := ⟨Cert.Quant.Gen.facts, Cert.QuantIdeal.Gen.facts, Cert.QuantRefIdeal.Gen.facts,
  Cert.Proj.Gen.facts, Cert.ProjIdeal.Gen.facts, Cert.ProjRefIdeal.Gen.facts,
  fun m ρ _ => Cert.Quant.Gen.frame m ρ,
  fun m ρ _ => Cert.QuantIdeal.Gen.frame m ρ,
  fun m ρ _ => Cert.QuantRefIdeal.Gen.frame m ρ,
  fun m ρ _ => Cert.Proj.Hand.frame m ρ,
  fun m ρ _ => Cert.ProjIdeal.Hand.frame m ρ,
  fun m ρ _ => Cert.ProjRefIdeal.Gen.frame m ρ,
  trivial,
  Cert.QVal.algebraic,
  ⟨IdealRules.bf16_pair.packStatement _, IdealRules.bf16_pair.statement _ _⟩,
  Cert.PVal.algebraic⟩

end Cert.Proof

end
